-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_qk [hPre_finite_qk : Cert.Pre_finite_qk.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_qk [hPre_finite_qk : Cert.Pre_finite_qk.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_qk.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4)) (m ((c.tc : Thread Cert.AttentionReferenceIdeal.nD Cert.AttentionReferenceIdeal.τ).loc Cert.AttentionReferenceIdeal.main_arg5)) (m ((c.tc : Thread Cert.AttentionReferenceIdeal.nD Cert.AttentionReferenceIdeal.τ).loc Cert.AttentionReferenceIdeal.main_arg6)) (m ((c.tc : Thread Cert.AttentionReferenceIdeal.nD Cert.AttentionReferenceIdeal.τ).loc Cert.AttentionReferenceIdeal.main_arg7))) = (fun _ => 1#1)

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpReferenceIdeal (m : (ℓ : Loc Cert.OutMlpReferenceIdeal.nD Cert.OutMlpReferenceIdeal.τ Cert.OutMlpReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionIdeal_pre_finite_qk [hAttentionIdeal : Cert.AttentionIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qk m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5)
      ∧ r.2.mem ((c.tc : Thread Cert.AttentionReferenceIdeal.nD Cert.AttentionReferenceIdeal.τ).loc Cert.AttentionReferenceIdeal.main_arg6) = m ((c.tc : Thread Cert.AttentionReferenceIdeal.nD Cert.AttentionReferenceIdeal.τ).loc Cert.AttentionReferenceIdeal.main_arg6)
      ∧ r.2.mem ((c.tc : Thread Cert.AttentionReferenceIdeal.nD Cert.AttentionReferenceIdeal.τ).loc Cert.AttentionReferenceIdeal.main_arg7) = m ((c.tc : Thread Cert.AttentionReferenceIdeal.nD Cert.AttentionReferenceIdeal.τ).loc Cert.AttentionReferenceIdeal.main_arg7))
      ∧ r.2.sem = fun _ => 0)

def quiescent_AttentionReferenceIdeal_pre_finite_qk [hAttentionReferenceIdeal : Cert.AttentionReferenceIdeal.Facts] [hPre_finite_qk : Cert.Pre_finite_qk.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_qk m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5)
      ∧ r.2.mem ((c.tc : Thread Cert.AttentionReferenceIdeal.nD Cert.AttentionReferenceIdeal.τ).loc Cert.AttentionReferenceIdeal.main_arg6) = m ((c.tc : Thread Cert.AttentionReferenceIdeal.nD Cert.AttentionReferenceIdeal.τ).loc Cert.AttentionReferenceIdeal.main_arg6)
      ∧ r.2.mem ((c.tc : Thread Cert.AttentionReferenceIdeal.nD Cert.AttentionReferenceIdeal.τ).loc Cert.AttentionReferenceIdeal.main_arg7) = m ((c.tc : Thread Cert.AttentionReferenceIdeal.nD Cert.AttentionReferenceIdeal.τ).loc Cert.AttentionReferenceIdeal.main_arg7))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6)
      ∧ r.2.mem ((c.tc : Thread Cert.OutMlp.nD Cert.OutMlp.τ).loc Cert.OutMlp.main_arg7) = m ((c.tc : Thread Cert.OutMlp.nD Cert.OutMlp.τ).loc Cert.OutMlp.main_arg7)
      ∧ r.2.mem ((c.tc : Thread Cert.OutMlp.nD Cert.OutMlp.τ).loc Cert.OutMlp.main_arg8) = m ((c.tc : Thread Cert.OutMlp.nD Cert.OutMlp.τ).loc Cert.OutMlp.main_arg8)
      ∧ r.2.mem ((c.tc : Thread Cert.OutMlp.nD Cert.OutMlp.τ).loc Cert.OutMlp.main_arg9) = m ((c.tc : Thread Cert.OutMlp.nD Cert.OutMlp.τ).loc Cert.OutMlp.main_arg9)
      ∧ r.2.mem ((c.tc : Thread Cert.OutMlp.nD Cert.OutMlp.τ).loc Cert.OutMlp.main_arg10) = m ((c.tc : Thread Cert.OutMlp.nD Cert.OutMlp.τ).loc Cert.OutMlp.main_arg10)
      ∧ r.2.mem ((c.tc : Thread Cert.OutMlp.nD Cert.OutMlp.τ).loc Cert.OutMlp.main_arg11) = m ((c.tc : Thread Cert.OutMlp.nD Cert.OutMlp.τ).loc Cert.OutMlp.main_arg11)
      ∧ r.2.mem ((c.tc : Thread Cert.OutMlp.nD Cert.OutMlp.τ).loc Cert.OutMlp.main_arg12) = m ((c.tc : Thread Cert.OutMlp.nD Cert.OutMlp.τ).loc Cert.OutMlp.main_arg12))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
      ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
      ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8)
      ∧ r.2.mem ((c.tc : Thread Cert.OutMlpIdeal.nD Cert.OutMlpIdeal.τ).loc Cert.OutMlpIdeal.main_arg9) = m ((c.tc : Thread Cert.OutMlpIdeal.nD Cert.OutMlpIdeal.τ).loc Cert.OutMlpIdeal.main_arg9)
      ∧ r.2.mem ((c.tc : Thread Cert.OutMlpIdeal.nD Cert.OutMlpIdeal.τ).loc Cert.OutMlpIdeal.main_arg10) = m ((c.tc : Thread Cert.OutMlpIdeal.nD Cert.OutMlpIdeal.τ).loc Cert.OutMlpIdeal.main_arg10)
      ∧ r.2.mem ((c.tc : Thread Cert.OutMlpIdeal.nD Cert.OutMlpIdeal.τ).loc Cert.OutMlpIdeal.main_arg11) = m ((c.tc : Thread Cert.OutMlpIdeal.nD Cert.OutMlpIdeal.τ).loc Cert.OutMlpIdeal.main_arg11)
      ∧ r.2.mem ((c.tc : Thread Cert.OutMlpIdeal.nD Cert.OutMlpIdeal.τ).loc Cert.OutMlpIdeal.main_arg12) = m ((c.tc : Thread Cert.OutMlpIdeal.nD Cert.OutMlpIdeal.τ).loc Cert.OutMlpIdeal.main_arg12))
      ∧ r.2.sem = fun _ => 0)

def quiescent_OutMlpReferenceIdeal [hOutMlpReferenceIdeal : Cert.OutMlpReferenceIdeal.Facts] : Prop :=
  ∀ (m : (ℓ : Loc Cert.OutMlpReferenceIdeal.nD Cert.OutMlpReferenceIdeal.τ Cert.OutMlpReferenceIdeal.sig) → Buf (Elt Ideal) ℓ) (g : Dev Cert.OutMlpReferenceIdeal.nD → PrngReg), Pre_OutMlpReferenceIdeal m →
    θ_run (Cert.OutMlpReferenceIdeal.defs (F := Ideal)) (onTc (τ := Cert.OutMlpReferenceIdeal.τ) (Cert.OutMlpReferenceIdeal.main (F := Ideal))) ⟨m, fun _ => 0, g⟩ (fun r => (∀ c : Dev Cert.OutMlpReferenceIdeal.nD,
      r.2.mem ((c.tc : Thread Cert.OutMlpReferenceIdeal.nD Cert.OutMlpReferenceIdeal.τ).loc Cert.OutMlpReferenceIdeal.main_arg0) = m ((c.tc : Thread Cert.OutMlpReferenceIdeal.nD Cert.OutMlpReferenceIdeal.τ).loc Cert.OutMlpReferenceIdeal.main_arg0)
      ∧ r.2.mem ((c.tc : Thread Cert.OutMlpReferenceIdeal.nD Cert.OutMlpReferenceIdeal.τ).loc Cert.OutMlpReferenceIdeal.main_arg1) = m ((c.tc : Thread Cert.OutMlpReferenceIdeal.nD Cert.OutMlpReferenceIdeal.τ).loc Cert.OutMlpReferenceIdeal.main_arg1)
      ∧ r.2.mem ((c.tc : Thread Cert.OutMlpReferenceIdeal.nD Cert.OutMlpReferenceIdeal.τ).loc Cert.OutMlpReferenceIdeal.main_arg2) = m ((c.tc : Thread Cert.OutMlpReferenceIdeal.nD Cert.OutMlpReferenceIdeal.τ).loc Cert.OutMlpReferenceIdeal.main_arg2)
      ∧ r.2.mem ((c.tc : Thread Cert.OutMlpReferenceIdeal.nD Cert.OutMlpReferenceIdeal.τ).loc Cert.OutMlpReferenceIdeal.main_arg3) = m ((c.tc : Thread Cert.OutMlpReferenceIdeal.nD Cert.OutMlpReferenceIdeal.τ).loc Cert.OutMlpReferenceIdeal.main_arg3)
      ∧ r.2.mem ((c.tc : Thread Cert.OutMlpReferenceIdeal.nD Cert.OutMlpReferenceIdeal.τ).loc Cert.OutMlpReferenceIdeal.main_arg4) = m ((c.tc : Thread Cert.OutMlpReferenceIdeal.nD Cert.OutMlpReferenceIdeal.τ).loc Cert.OutMlpReferenceIdeal.main_arg4)
      ∧ r.2.mem ((c.tc : Thread Cert.OutMlpReferenceIdeal.nD Cert.OutMlpReferenceIdeal.τ).loc Cert.OutMlpReferenceIdeal.main_arg5) = m ((c.tc : Thread Cert.OutMlpReferenceIdeal.nD Cert.OutMlpReferenceIdeal.τ).loc Cert.OutMlpReferenceIdeal.main_arg5)
      ∧ r.2.mem ((c.tc : Thread Cert.OutMlpReferenceIdeal.nD Cert.OutMlpReferenceIdeal.τ).loc Cert.OutMlpReferenceIdeal.main_arg6) = m ((c.tc : Thread Cert.OutMlpReferenceIdeal.nD Cert.OutMlpReferenceIdeal.τ).loc Cert.OutMlpReferenceIdeal.main_arg6)
      ∧ r.2.mem ((c.tc : Thread Cert.OutMlpReferenceIdeal.nD Cert.OutMlpReferenceIdeal.τ).loc Cert.OutMlpReferenceIdeal.main_arg7) = m ((c.tc : Thread Cert.OutMlpReferenceIdeal.nD Cert.OutMlpReferenceIdeal.τ).loc Cert.OutMlpReferenceIdeal.main_arg7)
      ∧ r.2.mem ((c.tc : Thread Cert.OutMlpReferenceIdeal.nD Cert.OutMlpReferenceIdeal.τ).loc Cert.OutMlpReferenceIdeal.main_arg8) = m ((c.tc : Thread Cert.OutMlpReferenceIdeal.nD Cert.OutMlpReferenceIdeal.τ).loc Cert.OutMlpReferenceIdeal.main_arg8)
      ∧ r.2.mem ((c.tc : Thread Cert.OutMlpReferenceIdeal.nD Cert.OutMlpReferenceIdeal.τ).loc Cert.OutMlpReferenceIdeal.main_arg9) = m ((c.tc : Thread Cert.OutMlpReferenceIdeal.nD Cert.OutMlpReferenceIdeal.τ).loc Cert.OutMlpReferenceIdeal.main_arg9)
      ∧ r.2.mem ((c.tc : Thread Cert.OutMlpReferenceIdeal.nD Cert.OutMlpReferenceIdeal.τ).loc Cert.OutMlpReferenceIdeal.main_arg10) = m ((c.tc : Thread Cert.OutMlpReferenceIdeal.nD Cert.OutMlpReferenceIdeal.τ).loc Cert.OutMlpReferenceIdeal.main_arg10)
      ∧ r.2.mem ((c.tc : Thread Cert.OutMlpReferenceIdeal.nD Cert.OutMlpReferenceIdeal.τ).loc Cert.OutMlpReferenceIdeal.main_arg11) = m ((c.tc : Thread Cert.OutMlpReferenceIdeal.nD Cert.OutMlpReferenceIdeal.τ).loc Cert.OutMlpReferenceIdeal.main_arg11)
      ∧ r.2.mem ((c.tc : Thread Cert.OutMlpReferenceIdeal.nD Cert.OutMlpReferenceIdeal.τ).loc Cert.OutMlpReferenceIdeal.main_arg12) = m ((c.tc : Thread Cert.OutMlpReferenceIdeal.nD Cert.OutMlpReferenceIdeal.τ).loc Cert.OutMlpReferenceIdeal.main_arg12))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10)
      ∧ r.2.mem ((c.tc : Thread Cert.InProj.nD Cert.InProj.τ).loc Cert.InProj.main_arg11) = m ((c.tc : Thread Cert.InProj.nD Cert.InProj.τ).loc Cert.InProj.main_arg11)
      ∧ r.2.mem ((c.tc : Thread Cert.InProj.nD Cert.InProj.τ).loc Cert.InProj.main_arg12) = m ((c.tc : Thread Cert.InProj.nD Cert.InProj.τ).loc Cert.InProj.main_arg12)
      ∧ r.2.mem ((c.tc : Thread Cert.InProj.nD Cert.InProj.τ).loc Cert.InProj.main_arg13) = m ((c.tc : Thread Cert.InProj.nD Cert.InProj.τ).loc Cert.InProj.main_arg13)
      ∧ r.2.mem ((c.tc : Thread Cert.InProj.nD Cert.InProj.τ).loc Cert.InProj.main_arg14) = m ((c.tc : Thread Cert.InProj.nD Cert.InProj.τ).loc Cert.InProj.main_arg14)
      ∧ r.2.mem ((c.tc : Thread Cert.InProj.nD Cert.InProj.τ).loc Cert.InProj.main_arg15) = m ((c.tc : Thread Cert.InProj.nD Cert.InProj.τ).loc Cert.InProj.main_arg15)
      ∧ r.2.mem ((c.tc : Thread Cert.InProj.nD Cert.InProj.τ).loc Cert.InProj.main_arg16) = m ((c.tc : Thread Cert.InProj.nD Cert.InProj.τ).loc Cert.InProj.main_arg16))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
      ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
      ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12)
      ∧ r.2.mem ((c.tc : Thread Cert.InProjIdeal.nD Cert.InProjIdeal.τ).loc Cert.InProjIdeal.main_arg13) = m ((c.tc : Thread Cert.InProjIdeal.nD Cert.InProjIdeal.τ).loc Cert.InProjIdeal.main_arg13)
      ∧ r.2.mem ((c.tc : Thread Cert.InProjIdeal.nD Cert.InProjIdeal.τ).loc Cert.InProjIdeal.main_arg14) = m ((c.tc : Thread Cert.InProjIdeal.nD Cert.InProjIdeal.τ).loc Cert.InProjIdeal.main_arg14)
      ∧ r.2.mem ((c.tc : Thread Cert.InProjIdeal.nD Cert.InProjIdeal.τ).loc Cert.InProjIdeal.main_arg15) = m ((c.tc : Thread Cert.InProjIdeal.nD Cert.InProjIdeal.τ).loc Cert.InProjIdeal.main_arg15)
      ∧ r.2.mem ((c.tc : Thread Cert.InProjIdeal.nD Cert.InProjIdeal.τ).loc Cert.InProjIdeal.main_arg16) = m ((c.tc : Thread Cert.InProjIdeal.nD Cert.InProjIdeal.τ).loc Cert.InProjIdeal.main_arg16))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9)
      ∧ r.2.mem ((c.tc : Thread Cert.InProjReferenceIdeal.nD Cert.InProjReferenceIdeal.τ).loc Cert.InProjReferenceIdeal.main_arg10) = m ((c.tc : Thread Cert.InProjReferenceIdeal.nD Cert.InProjReferenceIdeal.τ).loc Cert.InProjReferenceIdeal.main_arg10)
      ∧ r.2.mem ((c.tc : Thread Cert.InProjReferenceIdeal.nD Cert.InProjReferenceIdeal.τ).loc Cert.InProjReferenceIdeal.main_arg11) = m ((c.tc : Thread Cert.InProjReferenceIdeal.nD Cert.InProjReferenceIdeal.τ).loc Cert.InProjReferenceIdeal.main_arg11)
      ∧ r.2.mem ((c.tc : Thread Cert.InProjReferenceIdeal.nD Cert.InProjReferenceIdeal.τ).loc Cert.InProjReferenceIdeal.main_arg12) = m ((c.tc : Thread Cert.InProjReferenceIdeal.nD Cert.InProjReferenceIdeal.τ).loc Cert.InProjReferenceIdeal.main_arg12)
      ∧ r.2.mem ((c.tc : Thread Cert.InProjReferenceIdeal.nD Cert.InProjReferenceIdeal.τ).loc Cert.InProjReferenceIdeal.main_arg13) = m ((c.tc : Thread Cert.InProjReferenceIdeal.nD Cert.InProjReferenceIdeal.τ).loc Cert.InProjReferenceIdeal.main_arg13)
      ∧ r.2.mem ((c.tc : Thread Cert.InProjReferenceIdeal.nD Cert.InProjReferenceIdeal.τ).loc Cert.InProjReferenceIdeal.main_arg14) = m ((c.tc : Thread Cert.InProjReferenceIdeal.nD Cert.InProjReferenceIdeal.τ).loc Cert.InProjReferenceIdeal.main_arg14)
      ∧ r.2.mem ((c.tc : Thread Cert.InProjReferenceIdeal.nD Cert.InProjReferenceIdeal.τ).loc Cert.InProjReferenceIdeal.main_arg15) = m ((c.tc : Thread Cert.InProjReferenceIdeal.nD Cert.InProjReferenceIdeal.τ).loc Cert.InProjReferenceIdeal.main_arg15)
      ∧ r.2.mem ((c.tc : Thread Cert.InProjReferenceIdeal.nD Cert.InProjReferenceIdeal.τ).loc Cert.InProjReferenceIdeal.main_arg16) = m ((c.tc : Thread Cert.InProjReferenceIdeal.nD Cert.InProjReferenceIdeal.τ).loc Cert.InProjReferenceIdeal.main_arg16))
      ∧ r.2.sem = fun _ => 0)

def preserves_Attention_AttentionIdeal : Prop :=
  IdealRules.named_const.Statement Cert.AttentionIdeal.κ "scale_log2e" .f32 0x3E16C740#32 (((Real.sqrt 96)⁻¹ * (Real.log 2)⁻¹ : ℝ) : EReal)

def algebraic_AttentionIdeal_AttentionReferenceIdeal_pre_finite_qk [hAttentionIdeal : Cert.AttentionIdeal.Facts] [hAttentionReferenceIdeal : Cert.AttentionReferenceIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_qk m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)
      ∧ m' ((c.tc : Thread Cert.AttentionReferenceIdeal.nD Cert.AttentionReferenceIdeal.τ).loc Cert.AttentionReferenceIdeal.main_arg5) = m ((c.tc : Thread Cert.AttentionIdeal.nD Cert.AttentionIdeal.τ).loc Cert.AttentionIdeal.main_arg5)
      ∧ m' ((c.tc : Thread Cert.AttentionReferenceIdeal.nD Cert.AttentionReferenceIdeal.τ).loc Cert.AttentionReferenceIdeal.main_arg6) = m ((c.tc : Thread Cert.AttentionIdeal.nD Cert.AttentionIdeal.τ).loc Cert.AttentionIdeal.main_arg6)
      ∧ m' ((c.tc : Thread Cert.AttentionReferenceIdeal.nD Cert.AttentionReferenceIdeal.τ).loc Cert.AttentionReferenceIdeal.main_arg7) = m ((c.tc : Thread Cert.AttentionIdeal.nD Cert.AttentionIdeal.τ).loc Cert.AttentionIdeal.main_arg7)) →
    ∃ (v0 : (c : Dev Cert.AttentionIdeal.nD) → Buf (Elt Ideal) ((c.tc : Thread Cert.AttentionIdeal.nD Cert.AttentionIdeal.τ).loc Cert.AttentionIdeal.main_v26)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v26) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v24) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4)
          ∧ r.2.mem ((c.tc : Thread Cert.AttentionReferenceIdeal.nD Cert.AttentionReferenceIdeal.τ).loc Cert.AttentionReferenceIdeal.main_arg5) = m' ((c.tc : Thread Cert.AttentionReferenceIdeal.nD Cert.AttentionReferenceIdeal.τ).loc Cert.AttentionReferenceIdeal.main_arg5)
          ∧ r.2.mem ((c.tc : Thread Cert.AttentionReferenceIdeal.nD Cert.AttentionReferenceIdeal.τ).loc Cert.AttentionReferenceIdeal.main_arg6) = m' ((c.tc : Thread Cert.AttentionReferenceIdeal.nD Cert.AttentionReferenceIdeal.τ).loc Cert.AttentionReferenceIdeal.main_arg6)
          ∧ r.2.mem ((c.tc : Thread Cert.AttentionReferenceIdeal.nD Cert.AttentionReferenceIdeal.τ).loc Cert.AttentionReferenceIdeal.main_arg7) = m' ((c.tc : Thread Cert.AttentionReferenceIdeal.nD Cert.AttentionReferenceIdeal.τ).loc Cert.AttentionReferenceIdeal.main_arg7))

def preserves_OutMlp_OutMlpIdeal : Prop :=
  True

def algebraic_OutMlpIdeal_OutMlpReferenceIdeal [hOutMlpIdeal : Cert.OutMlpIdeal.Facts] [hOutMlpReferenceIdeal : Cert.OutMlpReferenceIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpReferenceIdeal.nD Cert.OutMlpReferenceIdeal.τ Cert.OutMlpReferenceIdeal.sig) → Buf (Elt Ideal) ℓ) (g' : Dev Cert.OutMlpReferenceIdeal.nD → PrngReg), Pre_OutMlpIdeal m →
    (∀ c : Dev Cert.OutMlpIdeal.nD,
      m' ((c.tc : Thread Cert.OutMlpReferenceIdeal.nD Cert.OutMlpReferenceIdeal.τ).loc Cert.OutMlpReferenceIdeal.main_arg0) = m ((c.tc : Thread Cert.OutMlpIdeal.nD Cert.OutMlpIdeal.τ).loc Cert.OutMlpIdeal.main_arg0)
      ∧ m' ((c.tc : Thread Cert.OutMlpReferenceIdeal.nD Cert.OutMlpReferenceIdeal.τ).loc Cert.OutMlpReferenceIdeal.main_arg1) = m ((c.tc : Thread Cert.OutMlpIdeal.nD Cert.OutMlpIdeal.τ).loc Cert.OutMlpIdeal.main_arg1)
      ∧ m' ((c.tc : Thread Cert.OutMlpReferenceIdeal.nD Cert.OutMlpReferenceIdeal.τ).loc Cert.OutMlpReferenceIdeal.main_arg2) = m ((c.tc : Thread Cert.OutMlpIdeal.nD Cert.OutMlpIdeal.τ).loc Cert.OutMlpIdeal.main_arg2)
      ∧ m' ((c.tc : Thread Cert.OutMlpReferenceIdeal.nD Cert.OutMlpReferenceIdeal.τ).loc Cert.OutMlpReferenceIdeal.main_arg3) = m ((c.tc : Thread Cert.OutMlpIdeal.nD Cert.OutMlpIdeal.τ).loc Cert.OutMlpIdeal.main_arg3)
      ∧ m' ((c.tc : Thread Cert.OutMlpReferenceIdeal.nD Cert.OutMlpReferenceIdeal.τ).loc Cert.OutMlpReferenceIdeal.main_arg4) = m ((c.tc : Thread Cert.OutMlpIdeal.nD Cert.OutMlpIdeal.τ).loc Cert.OutMlpIdeal.main_arg4)
      ∧ m' ((c.tc : Thread Cert.OutMlpReferenceIdeal.nD Cert.OutMlpReferenceIdeal.τ).loc Cert.OutMlpReferenceIdeal.main_arg5) = m ((c.tc : Thread Cert.OutMlpIdeal.nD Cert.OutMlpIdeal.τ).loc Cert.OutMlpIdeal.main_arg5)
      ∧ m' ((c.tc : Thread Cert.OutMlpReferenceIdeal.nD Cert.OutMlpReferenceIdeal.τ).loc Cert.OutMlpReferenceIdeal.main_arg6) = m ((c.tc : Thread Cert.OutMlpIdeal.nD Cert.OutMlpIdeal.τ).loc Cert.OutMlpIdeal.main_arg6)
      ∧ m' ((c.tc : Thread Cert.OutMlpReferenceIdeal.nD Cert.OutMlpReferenceIdeal.τ).loc Cert.OutMlpReferenceIdeal.main_arg7) = m ((c.tc : Thread Cert.OutMlpIdeal.nD Cert.OutMlpIdeal.τ).loc Cert.OutMlpIdeal.main_arg7)
      ∧ m' ((c.tc : Thread Cert.OutMlpReferenceIdeal.nD Cert.OutMlpReferenceIdeal.τ).loc Cert.OutMlpReferenceIdeal.main_arg8) = m ((c.tc : Thread Cert.OutMlpIdeal.nD Cert.OutMlpIdeal.τ).loc Cert.OutMlpIdeal.main_arg8)
      ∧ m' ((c.tc : Thread Cert.OutMlpReferenceIdeal.nD Cert.OutMlpReferenceIdeal.τ).loc Cert.OutMlpReferenceIdeal.main_arg9) = m ((c.tc : Thread Cert.OutMlpIdeal.nD Cert.OutMlpIdeal.τ).loc Cert.OutMlpIdeal.main_arg9)
      ∧ m' ((c.tc : Thread Cert.OutMlpReferenceIdeal.nD Cert.OutMlpReferenceIdeal.τ).loc Cert.OutMlpReferenceIdeal.main_arg10) = m ((c.tc : Thread Cert.OutMlpIdeal.nD Cert.OutMlpIdeal.τ).loc Cert.OutMlpIdeal.main_arg10)
      ∧ m' ((c.tc : Thread Cert.OutMlpReferenceIdeal.nD Cert.OutMlpReferenceIdeal.τ).loc Cert.OutMlpReferenceIdeal.main_arg11) = m ((c.tc : Thread Cert.OutMlpIdeal.nD Cert.OutMlpIdeal.τ).loc Cert.OutMlpIdeal.main_arg11)
      ∧ m' ((c.tc : Thread Cert.OutMlpReferenceIdeal.nD Cert.OutMlpReferenceIdeal.τ).loc Cert.OutMlpReferenceIdeal.main_arg12) = m ((c.tc : Thread Cert.OutMlpIdeal.nD Cert.OutMlpIdeal.τ).loc Cert.OutMlpIdeal.main_arg12)) →
    ∃ (v0 : (c : Dev Cert.OutMlpIdeal.nD) → Buf (Elt Ideal) ((c.tc : Thread Cert.OutMlpIdeal.nD Cert.OutMlpIdeal.τ).loc Cert.OutMlpIdeal.main_v11)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v11) = v0 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
          ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
          ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8)
          ∧ r.2.mem ((c.tc : Thread Cert.OutMlpIdeal.nD Cert.OutMlpIdeal.τ).loc Cert.OutMlpIdeal.main_arg9) = m ((c.tc : Thread Cert.OutMlpIdeal.nD Cert.OutMlpIdeal.τ).loc Cert.OutMlpIdeal.main_arg9)
          ∧ r.2.mem ((c.tc : Thread Cert.OutMlpIdeal.nD Cert.OutMlpIdeal.τ).loc Cert.OutMlpIdeal.main_arg10) = m ((c.tc : Thread Cert.OutMlpIdeal.nD Cert.OutMlpIdeal.τ).loc Cert.OutMlpIdeal.main_arg10)
          ∧ r.2.mem ((c.tc : Thread Cert.OutMlpIdeal.nD Cert.OutMlpIdeal.τ).loc Cert.OutMlpIdeal.main_arg11) = m ((c.tc : Thread Cert.OutMlpIdeal.nD Cert.OutMlpIdeal.τ).loc Cert.OutMlpIdeal.main_arg11)
          ∧ r.2.mem ((c.tc : Thread Cert.OutMlpIdeal.nD Cert.OutMlpIdeal.τ).loc Cert.OutMlpIdeal.main_arg12) = m ((c.tc : Thread Cert.OutMlpIdeal.nD Cert.OutMlpIdeal.τ).loc Cert.OutMlpIdeal.main_arg12))
      ∧ θ_run (Cert.OutMlpReferenceIdeal.defs (F := Ideal)) (onTc (τ := Cert.OutMlpReferenceIdeal.τ) (Cert.OutMlpReferenceIdeal.main (F := Ideal))) ⟨m', fun _ => 0, g'⟩ (fun r => ∀ c : Dev Cert.OutMlpReferenceIdeal.nD,
          r.2.mem ((c.tc : Thread Cert.OutMlpReferenceIdeal.nD Cert.OutMlpReferenceIdeal.τ).loc Cert.OutMlpReferenceIdeal.main_v82) = v0 c
          ∧ r.2.mem ((c.tc : Thread Cert.OutMlpReferenceIdeal.nD Cert.OutMlpReferenceIdeal.τ).loc Cert.OutMlpReferenceIdeal.main_arg0) = m' ((c.tc : Thread Cert.OutMlpReferenceIdeal.nD Cert.OutMlpReferenceIdeal.τ).loc Cert.OutMlpReferenceIdeal.main_arg0)
          ∧ r.2.mem ((c.tc : Thread Cert.OutMlpReferenceIdeal.nD Cert.OutMlpReferenceIdeal.τ).loc Cert.OutMlpReferenceIdeal.main_arg1) = m' ((c.tc : Thread Cert.OutMlpReferenceIdeal.nD Cert.OutMlpReferenceIdeal.τ).loc Cert.OutMlpReferenceIdeal.main_arg1)
          ∧ r.2.mem ((c.tc : Thread Cert.OutMlpReferenceIdeal.nD Cert.OutMlpReferenceIdeal.τ).loc Cert.OutMlpReferenceIdeal.main_arg2) = m' ((c.tc : Thread Cert.OutMlpReferenceIdeal.nD Cert.OutMlpReferenceIdeal.τ).loc Cert.OutMlpReferenceIdeal.main_arg2)
          ∧ r.2.mem ((c.tc : Thread Cert.OutMlpReferenceIdeal.nD Cert.OutMlpReferenceIdeal.τ).loc Cert.OutMlpReferenceIdeal.main_arg3) = m' ((c.tc : Thread Cert.OutMlpReferenceIdeal.nD Cert.OutMlpReferenceIdeal.τ).loc Cert.OutMlpReferenceIdeal.main_arg3)
          ∧ r.2.mem ((c.tc : Thread Cert.OutMlpReferenceIdeal.nD Cert.OutMlpReferenceIdeal.τ).loc Cert.OutMlpReferenceIdeal.main_arg4) = m' ((c.tc : Thread Cert.OutMlpReferenceIdeal.nD Cert.OutMlpReferenceIdeal.τ).loc Cert.OutMlpReferenceIdeal.main_arg4)
          ∧ r.2.mem ((c.tc : Thread Cert.OutMlpReferenceIdeal.nD Cert.OutMlpReferenceIdeal.τ).loc Cert.OutMlpReferenceIdeal.main_arg5) = m' ((c.tc : Thread Cert.OutMlpReferenceIdeal.nD Cert.OutMlpReferenceIdeal.τ).loc Cert.OutMlpReferenceIdeal.main_arg5)
          ∧ r.2.mem ((c.tc : Thread Cert.OutMlpReferenceIdeal.nD Cert.OutMlpReferenceIdeal.τ).loc Cert.OutMlpReferenceIdeal.main_arg6) = m' ((c.tc : Thread Cert.OutMlpReferenceIdeal.nD Cert.OutMlpReferenceIdeal.τ).loc Cert.OutMlpReferenceIdeal.main_arg6)
          ∧ r.2.mem ((c.tc : Thread Cert.OutMlpReferenceIdeal.nD Cert.OutMlpReferenceIdeal.τ).loc Cert.OutMlpReferenceIdeal.main_arg7) = m' ((c.tc : Thread Cert.OutMlpReferenceIdeal.nD Cert.OutMlpReferenceIdeal.τ).loc Cert.OutMlpReferenceIdeal.main_arg7)
          ∧ r.2.mem ((c.tc : Thread Cert.OutMlpReferenceIdeal.nD Cert.OutMlpReferenceIdeal.τ).loc Cert.OutMlpReferenceIdeal.main_arg8) = m' ((c.tc : Thread Cert.OutMlpReferenceIdeal.nD Cert.OutMlpReferenceIdeal.τ).loc Cert.OutMlpReferenceIdeal.main_arg8)
          ∧ r.2.mem ((c.tc : Thread Cert.OutMlpReferenceIdeal.nD Cert.OutMlpReferenceIdeal.τ).loc Cert.OutMlpReferenceIdeal.main_arg9) = m' ((c.tc : Thread Cert.OutMlpReferenceIdeal.nD Cert.OutMlpReferenceIdeal.τ).loc Cert.OutMlpReferenceIdeal.main_arg9)
          ∧ r.2.mem ((c.tc : Thread Cert.OutMlpReferenceIdeal.nD Cert.OutMlpReferenceIdeal.τ).loc Cert.OutMlpReferenceIdeal.main_arg10) = m' ((c.tc : Thread Cert.OutMlpReferenceIdeal.nD Cert.OutMlpReferenceIdeal.τ).loc Cert.OutMlpReferenceIdeal.main_arg10)
          ∧ r.2.mem ((c.tc : Thread Cert.OutMlpReferenceIdeal.nD Cert.OutMlpReferenceIdeal.τ).loc Cert.OutMlpReferenceIdeal.main_arg11) = m' ((c.tc : Thread Cert.OutMlpReferenceIdeal.nD Cert.OutMlpReferenceIdeal.τ).loc Cert.OutMlpReferenceIdeal.main_arg11)
          ∧ r.2.mem ((c.tc : Thread Cert.OutMlpReferenceIdeal.nD Cert.OutMlpReferenceIdeal.τ).loc Cert.OutMlpReferenceIdeal.main_arg12) = m' ((c.tc : Thread Cert.OutMlpReferenceIdeal.nD Cert.OutMlpReferenceIdeal.τ).loc Cert.OutMlpReferenceIdeal.main_arg12))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v23) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)
      ∧ m' ((c.tc : Thread Cert.InProjReferenceIdeal.nD Cert.InProjReferenceIdeal.τ).loc Cert.InProjReferenceIdeal.main_arg9) = m ((c.tc : Thread Cert.InProjIdeal.nD Cert.InProjIdeal.τ).loc Cert.InProjIdeal.main_arg9)
      ∧ m' ((c.tc : Thread Cert.InProjReferenceIdeal.nD Cert.InProjReferenceIdeal.τ).loc Cert.InProjReferenceIdeal.main_arg10) = m ((c.tc : Thread Cert.InProjIdeal.nD Cert.InProjIdeal.τ).loc Cert.InProjIdeal.main_arg10)
      ∧ m' ((c.tc : Thread Cert.InProjReferenceIdeal.nD Cert.InProjReferenceIdeal.τ).loc Cert.InProjReferenceIdeal.main_arg11) = m ((c.tc : Thread Cert.InProjIdeal.nD Cert.InProjIdeal.τ).loc Cert.InProjIdeal.main_arg11)
      ∧ m' ((c.tc : Thread Cert.InProjReferenceIdeal.nD Cert.InProjReferenceIdeal.τ).loc Cert.InProjReferenceIdeal.main_arg12) = m ((c.tc : Thread Cert.InProjIdeal.nD Cert.InProjIdeal.τ).loc Cert.InProjIdeal.main_arg12)
      ∧ m' ((c.tc : Thread Cert.InProjReferenceIdeal.nD Cert.InProjReferenceIdeal.τ).loc Cert.InProjReferenceIdeal.main_arg13) = m ((c.tc : Thread Cert.InProjIdeal.nD Cert.InProjIdeal.τ).loc Cert.InProjIdeal.main_arg13)
      ∧ m' ((c.tc : Thread Cert.InProjReferenceIdeal.nD Cert.InProjReferenceIdeal.τ).loc Cert.InProjReferenceIdeal.main_arg14) = m ((c.tc : Thread Cert.InProjIdeal.nD Cert.InProjIdeal.τ).loc Cert.InProjIdeal.main_arg14)
      ∧ m' ((c.tc : Thread Cert.InProjReferenceIdeal.nD Cert.InProjReferenceIdeal.τ).loc Cert.InProjReferenceIdeal.main_arg15) = m ((c.tc : Thread Cert.InProjIdeal.nD Cert.InProjIdeal.τ).loc Cert.InProjIdeal.main_arg15)
      ∧ m' ((c.tc : Thread Cert.InProjReferenceIdeal.nD Cert.InProjReferenceIdeal.τ).loc Cert.InProjReferenceIdeal.main_arg16) = m ((c.tc : Thread Cert.InProjIdeal.nD Cert.InProjIdeal.τ).loc Cert.InProjIdeal.main_arg16)) →
    ∃ (v0 : (c : Dev Cert.InProjIdeal.nD) → Buf (Elt Ideal) ((c.tc : Thread Cert.InProjIdeal.nD Cert.InProjIdeal.τ).loc Cert.InProjIdeal.main_v57_4)) (v1 : (c : Dev Cert.InProjIdeal.nD) → Buf (Elt Ideal) ((c.tc : Thread Cert.InProjIdeal.nD Cert.InProjIdeal.τ).loc Cert.InProjIdeal.main_v57_5)) (v2 : (c : Dev Cert.InProjIdeal.nD) → Buf (Elt Ideal) ((c.tc : Thread Cert.InProjIdeal.nD Cert.InProjIdeal.τ).loc Cert.InProjIdeal.main_v57_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v57_4) = v0 c
          ∧ r.2.mem ((c.tc : Thread Cert.InProjIdeal.nD Cert.InProjIdeal.τ).loc Cert.InProjIdeal.main_v57_5) = v1 c
          ∧ r.2.mem ((c.tc : Thread Cert.InProjIdeal.nD Cert.InProjIdeal.τ).loc Cert.InProjIdeal.main_v57_6) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
          ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
          ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12)
          ∧ r.2.mem ((c.tc : Thread Cert.InProjIdeal.nD Cert.InProjIdeal.τ).loc Cert.InProjIdeal.main_arg13) = m ((c.tc : Thread Cert.InProjIdeal.nD Cert.InProjIdeal.τ).loc Cert.InProjIdeal.main_arg13)
          ∧ r.2.mem ((c.tc : Thread Cert.InProjIdeal.nD Cert.InProjIdeal.τ).loc Cert.InProjIdeal.main_arg14) = m ((c.tc : Thread Cert.InProjIdeal.nD Cert.InProjIdeal.τ).loc Cert.InProjIdeal.main_arg14)
          ∧ r.2.mem ((c.tc : Thread Cert.InProjIdeal.nD Cert.InProjIdeal.τ).loc Cert.InProjIdeal.main_arg15) = m ((c.tc : Thread Cert.InProjIdeal.nD Cert.InProjIdeal.τ).loc Cert.InProjIdeal.main_arg15)
          ∧ r.2.mem ((c.tc : Thread Cert.InProjIdeal.nD Cert.InProjIdeal.τ).loc Cert.InProjIdeal.main_arg16) = m ((c.tc : Thread Cert.InProjIdeal.nD Cert.InProjIdeal.τ).loc Cert.InProjIdeal.main_arg16))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v42) = v0 c
          ∧ r.2.mem ((c.tc : Thread Cert.InProjReferenceIdeal.nD Cert.InProjReferenceIdeal.τ).loc Cert.InProjReferenceIdeal.main_v43) = v1 c
          ∧ r.2.mem ((c.tc : Thread Cert.InProjReferenceIdeal.nD Cert.InProjReferenceIdeal.τ).loc Cert.InProjReferenceIdeal.main_v44) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8)
          ∧ r.2.mem ((c.tc : Thread Cert.InProjReferenceIdeal.nD Cert.InProjReferenceIdeal.τ).loc Cert.InProjReferenceIdeal.main_arg9) = m' ((c.tc : Thread Cert.InProjReferenceIdeal.nD Cert.InProjReferenceIdeal.τ).loc Cert.InProjReferenceIdeal.main_arg9)
          ∧ r.2.mem ((c.tc : Thread Cert.InProjReferenceIdeal.nD Cert.InProjReferenceIdeal.τ).loc Cert.InProjReferenceIdeal.main_arg10) = m' ((c.tc : Thread Cert.InProjReferenceIdeal.nD Cert.InProjReferenceIdeal.τ).loc Cert.InProjReferenceIdeal.main_arg10)
          ∧ r.2.mem ((c.tc : Thread Cert.InProjReferenceIdeal.nD Cert.InProjReferenceIdeal.τ).loc Cert.InProjReferenceIdeal.main_arg11) = m' ((c.tc : Thread Cert.InProjReferenceIdeal.nD Cert.InProjReferenceIdeal.τ).loc Cert.InProjReferenceIdeal.main_arg11)
          ∧ r.2.mem ((c.tc : Thread Cert.InProjReferenceIdeal.nD Cert.InProjReferenceIdeal.τ).loc Cert.InProjReferenceIdeal.main_arg12) = m' ((c.tc : Thread Cert.InProjReferenceIdeal.nD Cert.InProjReferenceIdeal.τ).loc Cert.InProjReferenceIdeal.main_arg12)
          ∧ r.2.mem ((c.tc : Thread Cert.InProjReferenceIdeal.nD Cert.InProjReferenceIdeal.τ).loc Cert.InProjReferenceIdeal.main_arg13) = m' ((c.tc : Thread Cert.InProjReferenceIdeal.nD Cert.InProjReferenceIdeal.τ).loc Cert.InProjReferenceIdeal.main_arg13)
          ∧ r.2.mem ((c.tc : Thread Cert.InProjReferenceIdeal.nD Cert.InProjReferenceIdeal.τ).loc Cert.InProjReferenceIdeal.main_arg14) = m' ((c.tc : Thread Cert.InProjReferenceIdeal.nD Cert.InProjReferenceIdeal.τ).loc Cert.InProjReferenceIdeal.main_arg14)
          ∧ r.2.mem ((c.tc : Thread Cert.InProjReferenceIdeal.nD Cert.InProjReferenceIdeal.τ).loc Cert.InProjReferenceIdeal.main_arg15) = m' ((c.tc : Thread Cert.InProjReferenceIdeal.nD Cert.InProjReferenceIdeal.τ).loc Cert.InProjReferenceIdeal.main_arg15)
          ∧ r.2.mem ((c.tc : Thread Cert.InProjReferenceIdeal.nD Cert.InProjReferenceIdeal.τ).loc Cert.InProjReferenceIdeal.main_arg16) = m' ((c.tc : Thread Cert.InProjReferenceIdeal.nD Cert.InProjReferenceIdeal.τ).loc Cert.InProjReferenceIdeal.main_arg16))

def Claim : Prop :=
  ∃ (hAttention : Cert.Attention.Facts) (hAttentionIdeal : Cert.AttentionIdeal.Facts) (hAttentionReferenceIdeal : Cert.AttentionReferenceIdeal.Facts) (hOutMlp : Cert.OutMlp.Facts) (hOutMlpIdeal : Cert.OutMlpIdeal.Facts) (hOutMlpReferenceIdeal : Cert.OutMlpReferenceIdeal.Facts) (hModulation : Cert.Modulation.Facts) (hModulationIdeal : Cert.ModulationIdeal.Facts) (hModulationReferenceIdeal : Cert.ModulationReferenceIdeal.Facts) (hInProj : Cert.InProj.Facts) (hInProjIdeal : Cert.InProjIdeal.Facts) (hInProjReferenceIdeal : Cert.InProjReferenceIdeal.Facts) (hPre_finite_qk : Cert.Pre_finite_qk.Facts),
    quiescent_Attention (hAttention := hAttention)
    ∧ quiescent_AttentionIdeal (hAttentionIdeal := hAttentionIdeal)
    ∧ quiescent_AttentionIdeal_pre_finite_qk (hAttentionIdeal := hAttentionIdeal) (hPre_finite_qk := hPre_finite_qk)
    ∧ quiescent_AttentionReferenceIdeal (hAttentionReferenceIdeal := hAttentionReferenceIdeal)
    ∧ quiescent_AttentionReferenceIdeal_pre_finite_qk (hAttentionReferenceIdeal := hAttentionReferenceIdeal) (hPre_finite_qk := hPre_finite_qk)
    ∧ quiescent_OutMlp (hOutMlp := hOutMlp)
    ∧ quiescent_OutMlpIdeal (hOutMlpIdeal := hOutMlpIdeal)
    ∧ quiescent_OutMlpReferenceIdeal (hOutMlpReferenceIdeal := hOutMlpReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Attention_AttentionIdeal
    ∧ algebraic_AttentionIdeal_AttentionReferenceIdeal_pre_finite_qk (hAttentionIdeal := hAttentionIdeal) (hAttentionReferenceIdeal := hAttentionReferenceIdeal) (hPre_finite_qk := hPre_finite_qk)
    ∧ preserves_OutMlp_OutMlpIdeal
    ∧ algebraic_OutMlpIdeal_OutMlpReferenceIdeal (hOutMlpIdeal := hOutMlpIdeal) (hOutMlpReferenceIdeal := hOutMlpReferenceIdeal)
    ∧ preserves_Modulation_ModulationIdeal
    ∧ algebraic_ModulationIdeal_ModulationReferenceIdeal (hModulationIdeal := hModulationIdeal) (hModulationReferenceIdeal := hModulationReferenceIdeal)
    ∧ preserves_InProj_InProjIdeal
    ∧ algebraic_InProjIdeal_InProjReferenceIdeal (hInProjIdeal := hInProjIdeal) (hInProjReferenceIdeal := hInProjReferenceIdeal)
-- ==== Pre_finite_qk.lean ====
abbrev S4x4096x4x64 : Shape := ⟨4, ![4, 4096, 4, 64]⟩
abbrev S4x4096x4x32 : Shape := ⟨4, ![4, 4096, 4, 32]⟩
abbrev S4x4096x32 : Shape := ⟨3, ![4, 4096, 32]⟩
abbrev S4x256x4x64 : Shape := ⟨4, ![4, 256, 4, 64]⟩
abbrev S4x256x32 : Shape := ⟨3, ![4, 256, 32]⟩
abbrev S_ : Shape := ⟨0, ![]⟩

class Facts : Prop where
  bcast_S_S4x4096x4x64 : S_.BroadcastsInDim S4x4096x4x64 (![] : Fin 0 → Fin S4x4096x4x64.rank)
  reducesTo_S4x4096x4x64_S_d0_1_2_3 : S4x4096x4x64.ReducesTo [0, 1, 2, 3] S_
  h_S_ : 0 < S_.numel
  bcast_S_S4x4096x4x32 : S_.BroadcastsInDim S4x4096x4x32 (![] : Fin 0 → Fin S4x4096x4x32.rank)
  reducesTo_S4x4096x4x32_S_d0_1_2_3 : S4x4096x4x32.ReducesTo [0, 1, 2, 3] S_
  bcast_S_S4x4096x32 : S_.BroadcastsInDim S4x4096x32 (![] : Fin 0 → Fin S4x4096x32.rank)
  reducesTo_S4x4096x32_S_d0_1_2 : S4x4096x32.ReducesTo [0, 1, 2] S_
  bcast_S_S4x256x4x64 : S_.BroadcastsInDim S4x256x4x64 (![] : Fin 0 → Fin S4x256x4x64.rank)
  reducesTo_S4x256x4x64_S_d0_1_2_3 : S4x256x4x64.ReducesTo [0, 1, 2, 3] S_
  bcast_S_S4x256x32 : S_.BroadcastsInDim S4x256x32 (![] : Fin 0 → Fin S4x256x32.rank)
  reducesTo_S4x256x32_S_d0_1_2 : S4x256x32.ReducesTo [0, 1, 2] S_

variable [Facts]

def fn_part1 {F : FTy → Type} [FloatOps F] (main_arg5 : FVec F S4x256x4x64 .f32) (main_arg6 : FVec F S4x256x32 .f32) (main_v13 : IVec S_ 1) (main_v16 : IVec S4x4096x32 1) : IVec S_ 1 :=
  let main_c_5 : IVec S_ 1 := constantI S_ 1 1#1
  let main_v17 : IVec S_ 1 := (fun x v => Host.reduce IntOp.andi x v reducesTo_S4x4096x32_S_d0_1_2 h_S_) main_v16 main_c_5
  let main_v18 : IVec S_ 1 := andi main_v13 main_v17
  let main_v19 : FVec F S4x256x4x64 .f32 := Host.absf main_arg5
  let main_cst_6 : FVec F S_ .f32 := constant S_ .f32 0x7F800000#32
  let main_v20 : FVec F S4x256x4x64 .f32 := broadcastInDim S4x256x4x64 ![] bcast_S_S4x256x4x64 main_cst_6
  let main_v21 : IVec S4x256x4x64 1 := cmpf .olt main_v19 main_v20
  let main_c_7 : IVec S_ 1 := constantI S_ 1 1#1
  let main_v22 : IVec S_ 1 := (fun x v => Host.reduce IntOp.andi x v reducesTo_S4x256x4x64_S_d0_1_2_3 h_S_) main_v21 main_c_7
  let main_v23 : IVec S_ 1 := andi main_v18 main_v22
  let main_v24 : FVec F S4x256x32 .f32 := Host.absf main_arg6
  let main_cst_8 : FVec F S_ .f32 := constant S_ .f32 0x7F800000#32
  let main_v25 : FVec F S4x256x32 .f32 := broadcastInDim S4x256x32 ![] bcast_S_S4x256x32 main_cst_8
  let main_v26 : IVec S4x256x32 1 := cmpf .olt main_v24 main_v25
  let main_c_9 : IVec S_ 1 := constantI S_ 1 1#1
  let main_v27 : IVec S_ 1 := (fun x v => Host.reduce IntOp.andi x v reducesTo_S4x256x32_S_d0_1_2 h_S_) main_v26 main_c_9
  let main_v28 : IVec S_ 1 := andi main_v23 main_v27
  main_v28

def fn {F : FTy → Type} [FloatOps F] (main_arg0 : FVec F S4x4096x4x64 .f32) (main_arg1 : FVec F S4x4096x4x32 .f32) (main_arg2 : FVec F S4x4096x4x64 .f32) (main_arg3 : FVec F S4x4096x32 .f32) (main_arg4 : FVec F S4x4096x4x64 .f32) (main_arg5 : FVec F S4x256x4x64 .f32) (main_arg6 : FVec F S4x256x32 .f32) (main_arg7 : FVec F S4x256x4x64 .f32) : IVec S_ 1 :=
  let main_v0 : FVec F S4x4096x4x64 .f32 := Host.absf main_arg0
  let main_cst : FVec F S_ .f32 := constant S_ .f32 0x7F800000#32
  let main_v1 : FVec F S4x4096x4x64 .f32 := broadcastInDim S4x4096x4x64 ![] bcast_S_S4x4096x4x64 main_cst
  let main_v2 : IVec S4x4096x4x64 1 := cmpf .olt main_v0 main_v1
  let main_c : IVec S_ 1 := constantI S_ 1 1#1
  let main_v3 : IVec S_ 1 := (fun x v => Host.reduce IntOp.andi x v reducesTo_S4x4096x4x64_S_d0_1_2_3 h_S_) main_v2 main_c
  let main_v4 : FVec F S4x4096x4x32 .f32 := Host.absf main_arg1
  let main_cst_0 : FVec F S_ .f32 := constant S_ .f32 0x7F800000#32
  let main_v5 : FVec F S4x4096x4x32 .f32 := broadcastInDim S4x4096x4x32 ![] bcast_S_S4x4096x4x32 main_cst_0
  let main_v6 : IVec S4x4096x4x32 1 := cmpf .olt main_v4 main_v5
  let main_c_1 : IVec S_ 1 := constantI S_ 1 1#1
  let main_v7 : IVec S_ 1 := (fun x v => Host.reduce IntOp.andi x v reducesTo_S4x4096x4x32_S_d0_1_2_3 h_S_) main_v6 main_c_1
  let main_v8 : IVec S_ 1 := andi main_v3 main_v7
  let main_v9 : FVec F S4x4096x4x64 .f32 := Host.absf main_arg2
  let main_cst_2 : FVec F S_ .f32 := constant S_ .f32 0x7F800000#32
  let main_v10 : FVec F S4x4096x4x64 .f32 := broadcastInDim S4x4096x4x64 ![] bcast_S_S4x4096x4x64 main_cst_2
  let main_v11 : IVec S4x4096x4x64 1 := cmpf .olt main_v9 main_v10
  let main_c_3 : IVec S_ 1 := constantI S_ 1 1#1
  let main_v12 : IVec S_ 1 := (fun x v => Host.reduce IntOp.andi x v reducesTo_S4x4096x4x64_S_d0_1_2_3 h_S_) main_v11 main_c_3
  let main_v13 : IVec S_ 1 := andi main_v8 main_v12
  let main_v14 : FVec F S4x4096x32 .f32 := Host.absf main_arg3
  let main_cst_4 : FVec F S_ .f32 := constant S_ .f32 0x7F800000#32
  let main_v15 : FVec F S4x4096x32 .f32 := broadcastInDim S4x4096x32 ![] bcast_S_S4x4096x32 main_cst_4
  let main_v16 : IVec S4x4096x32 1 := cmpf .olt main_v14 main_v15
  fn_part1 (F := F) main_arg5 main_arg6 main_v13 main_v16
-- ==== Attention.lean ====
abbrev S4x4096x4x64 : Shape := ⟨4, ![4, 4096, 4, 64]⟩
abbrev S4x4096x4x32 : Shape := ⟨4, ![4, 4096, 4, 32]⟩
abbrev S4x4096x32 : Shape := ⟨3, ![4, 4096, 32]⟩
abbrev S4x256x4x64 : Shape := ⟨4, ![4, 256, 4, 64]⟩
abbrev S4x256x32 : Shape := ⟨3, ![4, 256, 32]⟩
abbrev S_ : Shape := ⟨0, ![]⟩
abbrev S4x4096x4x128 : Shape := ⟨4, ![4, 4096, 4, 128]⟩
abbrev S4x4096x512 : Shape := ⟨3, ![4, 4096, 512]⟩
abbrev S4x4096x1x32 : Shape := ⟨4, ![4, 4096, 1, 32]⟩
abbrev S4x4096x4x1 : Shape := ⟨4, ![4, 4096, 4, 1]⟩
abbrev S4x4096x4x63 : Shape := ⟨4, ![4, 4096, 4, 63]⟩
abbrev S4x256x1x32 : Shape := ⟨4, ![4, 256, 1, 32]⟩
abbrev S4x256x4x32 : Shape := ⟨4, ![4, 256, 4, 32]⟩
abbrev S4x256x4x128 : Shape := ⟨4, ![4, 256, 4, 128]⟩
abbrev S4x256x512 : Shape := ⟨3, ![4, 256, 512]⟩
abbrev S4x256x4x1 : Shape := ⟨4, ![4, 256, 4, 1]⟩
abbrev S4x256x4x63 : Shape := ⟨4, ![4, 256, 4, 63]⟩
abbrev S4x4096x256 : Shape := ⟨3, ![4, 4096, 256]⟩
abbrev S1x1024x512 : Shape := ⟨3, ![1, 1024, 512]⟩
abbrev S1x4096x512 : Shape := ⟨3, ![1, 4096, 512]⟩
abbrev S1x256x512 : Shape := ⟨3, ![1, 256, 512]⟩
abbrev S1x1024x256 : Shape := ⟨3, ![1, 1024, 256]⟩
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S1x2048x128 : Shape := ⟨3, ![1, 2048, 128]⟩
abbrev S2048x128 : Shape := ⟨2, ![2048, 128]⟩
abbrev S1024x2048 : Shape := ⟨2, ![1024, 2048]⟩

abbrev nBuf : Space → Nat
  | .hbm => 42
  | .vmem => 12
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x4x32, .f32⟩
  | .hbm, ⟨2, _⟩ => ⟨S4x4096x4x64, .f32⟩
  | .hbm, ⟨3, _⟩ => ⟨S4x4096x32, .f32⟩
  | .hbm, ⟨4, _⟩ => ⟨S4x4096x4x64, .f32⟩
  | .hbm, ⟨5, _⟩ => ⟨S4x256x4x64, .f32⟩
  | .hbm, ⟨6, _⟩ => ⟨S4x256x32, .f32⟩
  | .hbm, ⟨7, _⟩ => ⟨S4x256x4x64, .f32⟩
  | .hbm, ⟨8, _⟩ => ⟨S_, .f32⟩
  | .hbm, ⟨9, _⟩ => ⟨S4x4096x4x32, .f32⟩
  | .hbm, ⟨10, _⟩ => ⟨S4x4096x4x128, .f32⟩
  | .hbm, ⟨11, _⟩ => ⟨S4x4096x512, .f32⟩
  | .hbm, ⟨12, _⟩ => ⟨S4x4096x512, .bf16⟩
  | .hbm, ⟨13, _⟩ => ⟨S4x4096x1x32, .f32⟩
  | .hbm, ⟨14, _⟩ => ⟨S4x4096x4x32, .f32⟩
  | .hbm, ⟨15, _⟩ => ⟨S_, .f32⟩
  | .hbm, ⟨16, _⟩ => ⟨S4x4096x4x32, .f32⟩
  | .hbm, ⟨17, _⟩ => ⟨S4x4096x4x128, .f32⟩
  | .hbm, ⟨18, _⟩ => ⟨S4x4096x512, .f32⟩
  | .hbm, ⟨19, _⟩ => ⟨S4x4096x512, .bf16⟩
  | .hbm, ⟨20, _⟩ => ⟨S_, .f32⟩
  | .hbm, ⟨21, _⟩ => ⟨S4x4096x4x1, .f32⟩
  | .hbm, ⟨22, _⟩ => ⟨S_, .f32⟩
  | .hbm, ⟨23, _⟩ => ⟨S4x4096x4x63, .f32⟩
  | .hbm, ⟨24, _⟩ => ⟨S4x4096x4x128, .f32⟩
  | .hbm, ⟨25, _⟩ => ⟨S4x4096x512, .f32⟩
  | .hbm, ⟨26, _⟩ => ⟨S4x4096x512, .bf16⟩
  | .hbm, ⟨27, _⟩ => ⟨S4x256x1x32, .f32⟩
  | .hbm, ⟨28, _⟩ => ⟨S4x256x4x32, .f32⟩
  | .hbm, ⟨29, _⟩ => ⟨S_, .f32⟩
  | .hbm, ⟨30, _⟩ => ⟨S4x256x4x32, .f32⟩
  | .hbm, ⟨31, _⟩ => ⟨S4x256x4x128, .f32⟩
  | .hbm, ⟨32, _⟩ => ⟨S4x256x512, .f32⟩
  | .hbm, ⟨33, _⟩ => ⟨S4x256x512, .bf16⟩
  | .hbm, ⟨34, _⟩ => ⟨S_, .f32⟩
  | .hbm, ⟨35, _⟩ => ⟨S4x256x4x1, .f32⟩
  | .hbm, ⟨36, _⟩ => ⟨S_, .f32⟩
  | .hbm, ⟨37, _⟩ => ⟨S4x256x4x63, .f32⟩
  | .hbm, ⟨38, _⟩ => ⟨S4x256x4x128, .f32⟩
  | .hbm, ⟨39, _⟩ => ⟨S4x256x512, .f32⟩
  | .hbm, ⟨40, _⟩ => ⟨S4x256x512, .bf16⟩
  | .hbm, ⟨41, _⟩ => ⟨S4x4096x256, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x1024x256, .bf16⟩
  | .local _ .vmem, ⟨11, _⟩ => ⟨S1x1024x256, .bf16⟩
  | _, _ => ⟨S4x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttentionIdeal.lean ====
variable {F : FTy → Type} [FloatOps F] [Named F]
def κ : String → Option EReal := fun
  | "scale_log2e" => some (((Real.sqrt 96)⁻¹ * (Real.log 2)⁻¹ : ℝ) : EReal)
  | _ => none
-- ==== AttentionReferenceIdeal.lean ====
abbrev S4x4096x4x64 : Shape := ⟨4, ![4, 4096, 4, 64]⟩
abbrev S4x4096x4x32 : Shape := ⟨4, ![4, 4096, 4, 32]⟩
abbrev S4x4096x32 : Shape := ⟨3, ![4, 4096, 32]⟩
abbrev S4x256x4x64 : Shape := ⟨4, ![4, 256, 4, 64]⟩
abbrev S4x256x32 : Shape := ⟨3, ![4, 256, 32]⟩
abbrev S4x4352x4x64 : Shape := ⟨4, ![4, 4352, 4, 64]⟩
abbrev S4x4352x32 : Shape := ⟨3, ![4, 4352, 32]⟩
abbrev S4x4x4096x4352 : Shape := ⟨4, ![4, 4, 4096, 4352]⟩
abbrev S4x4352x4096x4 : Shape := ⟨4, ![4, 4352, 4096, 4]⟩
abbrev S_ : Shape := ⟨0, ![]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x256 : Shape := ⟨3, ![4, 4096, 256]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x4x32, .f32⟩
  | .hbm, ⟨2, _⟩ => ⟨S4x4096x4x64, .f32⟩
  | .hbm, ⟨3, _⟩ => ⟨S4x4096x32, .f32⟩
  | .hbm, ⟨4, _⟩ => ⟨S4x4096x4x64, .f32⟩
  | .hbm, ⟨5, _⟩ => ⟨S4x256x4x64, .f32⟩
  | .hbm, ⟨6, _⟩ => ⟨S4x256x32, .f32⟩
  | .hbm, ⟨7, _⟩ => ⟨S4x256x4x64, .f32⟩
  | .hbm, ⟨8, _⟩ => ⟨S4x4352x4x64, .f32⟩
  | .hbm, ⟨9, _⟩ => ⟨S4x4352x32, .f32⟩
  | .hbm, ⟨10, _⟩ => ⟨S4x4352x4x64, .f32⟩
  | .hbm, ⟨11, _⟩ => ⟨S4x4x4096x4352, .f32⟩
  | .hbm, ⟨12, _⟩ => ⟨S4x4352x4096x4, .f32⟩
  | .hbm, ⟨13, _⟩ => ⟨S4x4x4096x4352, .f32⟩
  | .hbm, ⟨14, _⟩ => ⟨S4x4x4096x4352, .f32⟩
  | .hbm, ⟨15, _⟩ => ⟨S_, .f32⟩
  | .hbm, ⟨16, _⟩ => ⟨S_, .f32⟩
  | .hbm, ⟨17, _⟩ => ⟨S4x4x4096x4352, .f32⟩
  | .hbm, ⟨18, _⟩ => ⟨S4x4x4096x4352, .f32⟩
  | .hbm, ⟨19, _⟩ => ⟨S_, .f32⟩
  | .hbm, ⟨20, _⟩ => ⟨S4x4x4096, .f32⟩
  | .hbm, ⟨21, _⟩ => ⟨S_, .f32⟩
  | .hbm, ⟨22, _⟩ => ⟨S4x4x4096, .f32⟩
  | .hbm, ⟨23, _⟩ => ⟨S4x4x4096, .f32⟩
  | .hbm, ⟨24, _⟩ => ⟨S4x4x4096x1, .f32⟩
  | .hbm, ⟨25, _⟩ => ⟨S4x4x4096x4352, .f32⟩
  | .hbm, ⟨26, _⟩ => ⟨S4x4x4096x4352, .f32⟩
  | .hbm, ⟨27, _⟩ => ⟨S4x4x4096x4352, .f32⟩
  | .hbm, ⟨28, _⟩ => ⟨S_, .f32⟩
  | .hbm, ⟨29, _⟩ => ⟨S4x4x4096, .f32⟩
  | .hbm, ⟨30, _⟩ => ⟨S4x4x4096x1, .f32⟩
  | .hbm, ⟨31, _⟩ => ⟨S4x4x4096x4352, .f32⟩
  | .hbm, ⟨32, _⟩ => ⟨S4x4x4096x4352, .f32⟩
  | .hbm, ⟨33, _⟩ => ⟨S4x4x64x4096, .f32⟩
  | .hbm, ⟨34, _⟩ => ⟨S4x4096x4x64, .f32⟩
  | .hbm, ⟨35, _⟩ => ⟨S4x4096x256, .f32⟩
  | .hbm, ⟨36, _⟩ => ⟨S4x4096x256, .bf16⟩
  | _, _ => ⟨S4x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== OutMlp.lean ====
abbrev S4x4096x1024 : Shape := ⟨3, ![4, 4096, 1024]⟩
abbrev S4x4096x256 : Shape := ⟨3, ![4, 4096, 256]⟩
abbrev S2x4x6144 : Shape := ⟨3, ![2, 4, 6144]⟩
abbrev S2x6144 : Shape := ⟨2, ![2, 6144]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S2x3x6144 : Shape := ⟨3, ![2, 3, 6144]⟩
abbrev S2x1x6144 : Shape := ⟨3, ![2, 1, 6144]⟩
abbrev S2x8x6144 : Shape := ⟨3, ![2, 8, 6144]⟩
abbrev S2x8x6x1024 : Shape := ⟨4, ![2, 8, 6, 1024]⟩
abbrev S4x4096x512 : Shape := ⟨3, ![4, 4096, 512]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x1x6x1024 : Shape := ⟨4, ![1, 1, 6, 1024]⟩
abbrev S1x1024x4096 : Shape := ⟨3, ![1, 1024, 4096]⟩
abbrev S1x4096x1024 : Shape := ⟨3, ![1, 4096, 1024]⟩
abbrev S1x1x1x1024 : Shape := ⟨4, ![1, 1, 1, 1024]⟩
abbrev S1x1024 : Shape := ⟨2, ![1, 1024]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 26
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S2x4x6144, .f32⟩
  | .hbm, ⟨6, _⟩ => ⟨S2x6144, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024x1024, .f32⟩
  | .hbm, ⟨11, _⟩ => ⟨S2x1024x4096, .f32⟩
  | .hbm, ⟨12, _⟩ => ⟨S2x4096x1024, .f32⟩
  | .hbm, ⟨13, _⟩ => ⟨S2x1024x1024, .bf16⟩
  | .hbm, ⟨14, _⟩ => ⟨S2x1024x4096, .bf16⟩
  | .hbm, ⟨15, _⟩ => ⟨S2x4096x1024, .bf16⟩
  | .hbm, ⟨16, _⟩ => ⟨S_, .f32⟩
  | .hbm, ⟨17, _⟩ => ⟨S2x3x6144, .f32⟩
  | .hbm, ⟨18, _⟩ => ⟨S2x1x6144, .f32⟩
  | .hbm, ⟨19, _⟩ => ⟨S2x8x6144, .f32⟩
  | .hbm, ⟨20, _⟩ => ⟨S2x8x6x1024, .f32⟩
  | .hbm, ⟨21, _⟩ => ⟨S4x4096x512, .f32⟩
  | .hbm, ⟨22, _⟩ => ⟨S4x4096x512, .bf16⟩
  | .hbm, ⟨23, _⟩ => ⟨S4x4096x256, .bf16⟩
  | .hbm, ⟨24, _⟩ => ⟨S4x4096x256, .bf16⟩
  | .hbm, ⟨25, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1x6x1024, .f32⟩
  | .local _ .vmem, ⟨9, _⟩ => ⟨S1x1x6x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S1x1024x1024, .bf16⟩
  | .local _ .vmem, ⟨14, _⟩ => ⟨S1x1024x4096, .bf16⟩
  | .local _ .vmem, ⟨15, _⟩ => ⟨S1x4096x1024, .bf16⟩
  | .local _ .vmem, ⟨16, _⟩ => ⟨S1x1024x1024, .f32⟩
  | .local _ .vmem, ⟨17, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutMlpReferenceIdeal.lean ====
abbrev S4x4096x1024 : Shape := ⟨3, ![4, 4096, 1024]⟩
abbrev S4x4096x256 : Shape := ⟨3, ![4, 4096, 256]⟩
abbrev S2x4x6144 : Shape := ⟨3, ![2, 4, 6144]⟩
abbrev S2x6144 : Shape := ⟨2, ![2, 6144]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x4x6144 : Shape := ⟨3, ![1, 4, 6144]⟩
abbrev S4x6144 : Shape := ⟨2, ![4, 6144]⟩
abbrev S4x1024 : Shape := ⟨2, ![4, 1024]⟩
abbrev S4x1x1024 : Shape := ⟨3, ![4, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S2x4x6144, .f32⟩
  | .hbm, ⟨6, _⟩ => ⟨S2x6144, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024x1024, .f32⟩
  | .hbm, ⟨11, _⟩ => ⟨S2x1024x4096, .f32⟩
  | .hbm, ⟨12, _⟩ => ⟨S2x4096x1024, .f32⟩
  | .hbm, ⟨13, _⟩ => ⟨S1x4x6144, .f32⟩
  | .hbm, ⟨14, _⟩ => ⟨S4x6144, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S1x1024x1024, .f32⟩
  | .hbm, ⟨29, _⟩ => ⟨S1024x1024, .f32⟩
  | .hbm, ⟨30, _⟩ => ⟨S4x4096x1024, .f32⟩
  | .hbm, ⟨31, _⟩ => ⟨S1x1024, .f32⟩
  | .hbm, ⟨32, _⟩ => ⟨S1024, .f32⟩
  | .hbm, ⟨33, _⟩ => ⟨S4x4096x1024, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x1024, .f32⟩
  | .hbm, ⟨45, _⟩ => ⟨S4x4096x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S1x1024, .f32⟩
  | .hbm, ⟨53, _⟩ => ⟨S1024, .f32⟩
  | .hbm, ⟨54, _⟩ => ⟨S4x4096x1024, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S_, .f32⟩
  | .hbm, ⟨71, _⟩ => ⟨S4x1x1024, .f32⟩
  | .hbm, ⟨72, _⟩ => ⟨S4x1x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S1x1024x4096, .f32⟩
  | .hbm, ⟨78, _⟩ => ⟨S1024x4096, .f32⟩
  | .hbm, ⟨79, _⟩ => ⟨S4x4096x4096, .f32⟩
  | .hbm, ⟨80, _⟩ => ⟨S_, .f32⟩
  | .hbm, ⟨81, _⟩ => ⟨S4x4096x4096, .f32⟩
  | .hbm, ⟨82, _⟩ => ⟨S4x4096x4096, .f32⟩
  | .hbm, ⟨83, _⟩ => ⟨S4x4096x4096, .f32⟩
  | .hbm, ⟨84, _⟩ => ⟨S1x4096x1024, .f32⟩
  | .hbm, ⟨85, _⟩ => ⟨S4096x1024, .f32⟩
  | .hbm, ⟨86, _⟩ => ⟨S4x4096x1024, .f32⟩
  | .hbm, ⟨87, _⟩ => ⟨S1x1024, .f32⟩
  | .hbm, ⟨88, _⟩ => ⟨S1024, .f32⟩
  | .hbm, ⟨89, _⟩ => ⟨S4x4096x1024, .f32⟩
  | .hbm, ⟨90, _⟩ => ⟨S_, .f32⟩
  | .hbm, ⟨91, _⟩ => ⟨S4x4096, .f32⟩
  | .hbm, ⟨92, _⟩ => ⟨S4x4096x1, .f32⟩
  | .hbm, ⟨93, _⟩ => ⟨S_, .f32⟩
  | .hbm, ⟨94, _⟩ => ⟨S4x4096x1, .f32⟩
  | .hbm, ⟨95, _⟩ => ⟨S4x4096x1, .f32⟩
  | .hbm, ⟨96, _⟩ => ⟨S_, .f32⟩
  | .hbm, ⟨97, _⟩ => ⟨S4x4096x1, .f32⟩
  | .hbm, ⟨98, _⟩ => ⟨S4x4096x1, .f32⟩
  | .hbm, ⟨99, _⟩ => ⟨S4x4096x1, .f32⟩
  | .hbm, ⟨100, _⟩ => ⟨S4x4096x1024, .f32⟩
  | .hbm, ⟨101, _⟩ => ⟨S4x4096x1024, .f32⟩
  | .hbm, ⟨102, _⟩ => ⟨S1x1x1024, .f32⟩
  | .hbm, ⟨103, _⟩ => ⟨S4x4096x1024, .f32⟩
  | .hbm, ⟨104, _⟩ => ⟨S4x4096x1024, .f32⟩
  | .hbm, ⟨105, _⟩ => ⟨S4x4096x1024, .f32⟩
  | .hbm, ⟨106, _⟩ => ⟨S4x4096x1024, .f32⟩
  | .hbm, ⟨107, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call0_cst : Ref sig .tc := ⟨.hbm, 80, rfl⟩
abbrev main_call0_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_cst_7 : Ref sig .tc := ⟨.hbm, 93, rfl⟩
abbrev main_v70 : Ref sig .tc := ⟨.hbm, 94, rfl⟩
abbrev main_v71 : Ref sig .tc := ⟨.hbm, 95, rfl⟩
abbrev main_cst_8 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== Modulation.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x2048 : Shape := ⟨3, ![1, 1024, 2048]⟩
abbrev S1x1x2048 : Shape := ⟨3, ![1, 1, 2048]⟩
abbrev S1x8x2048 : Shape := ⟨3, ![1, 8, 2048]⟩
abbrev S1024x2048 : Shape := ⟨2, ![1024, 2048]⟩
abbrev S8x2048 : Shape := ⟨2, ![8, 2048]⟩
abbrev S1x2048 : Shape := ⟨2, ![1, 2048]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== InProj.lean ====
abbrev S4x4096x1024 : Shape := ⟨3, ![4, 4096, 1024]⟩
abbrev S2x4x6144 : Shape := ⟨3, ![2, 4, 6144]⟩
abbrev S2x6144 : Shape := ⟨2, ![2, 6144]⟩
abbrev S4096x32 : Shape := ⟨2, ![4096, 32]⟩
abbrev S2x1024 : Shape := ⟨2, ![2, 1024]⟩
abbrev S2x1024x2464 : Shape := ⟨3, ![2, 1024, 2464]⟩
abbrev S2x3x256 : Shape := ⟨3, ![2, 3, 256]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S2x31x256 : Shape := ⟨3, ![2, 31, 256]⟩
abbrev S2x256x256 : Shape := ⟨3, ![2, 256, 256]⟩
abbrev S2x1024x32 : Shape := ⟨3, ![2, 1024, 32]⟩
abbrev S_ : Shape := ⟨0, ![]⟩
abbrev S2x256x4x96 : Shape := ⟨4, ![2, 256, 4, 96]⟩
abbrev S2x256x4x32 : Shape := ⟨4, ![2, 256, 4, 32]⟩
abbrev S2x256x4x64 : Shape := ⟨4, ![2, 256, 4, 64]⟩
abbrev S2x256x4x128 : Shape := ⟨4, ![2, 256, 4, 128]⟩
abbrev S2x256x512 : Shape := ⟨3, ![2, 256, 512]⟩
abbrev S2x256x4x8 : Shape := ⟨4, ![2, 256, 4, 8]⟩
abbrev S2x128x4x128 : Shape := ⟨4, ![2, 128, 4, 128]⟩
abbrev S2x128x4x64 : Shape := ⟨4, ![2, 128, 4, 64]⟩
abbrev S2x1024x768 : Shape := ⟨3, ![2, 1024, 768]⟩
abbrev S2x1024x384 : Shape := ⟨3, ![2, 1024, 384]⟩
abbrev S2x1024x8 : Shape := ⟨3, ![2, 1024, 8]⟩
abbrev S2x1024x512 : Shape := ⟨3, ![2, 1024, 512]⟩
abbrev S2x256x1024 : Shape := ⟨3, ![2, 256, 1024]⟩
abbrev S2x128x1024 : Shape := ⟨3, ![2, 128, 1024]⟩
abbrev S2x3x6144 : Shape := ⟨3, ![2, 3, 6144]⟩
abbrev S2x1x6144 : Shape := ⟨3, ![2, 1, 6144]⟩
abbrev S2x8x6144 : Shape := ⟨3, ![2, 8, 6144]⟩
abbrev S2x8x6x1024 : Shape := ⟨4, ![2, 8, 6, 1024]⟩
abbrev S4096x64 : Shape := ⟨2, ![4096, 64]⟩
abbrev S4096x128 : Shape := ⟨2, ![4096, 128]⟩
abbrev S4x4096x512 : Shape := ⟨3, ![4, 4096, 512]⟩
abbrev S4x4096x256 : Shape := ⟨3, ![4, 4096, 256]⟩
abbrev S1x1024x1024 : Shape := ⟨3, ![1, 1024, 1024]⟩
abbrev S1x16x1024 : Shape := ⟨3, ![1, 16, 1024]⟩
abbrev S1x1x6x1024 : Shape := ⟨4, ![1, 1, 6, 1024]⟩
abbrev S1x1024x768 : Shape := ⟨3, ![1, 1024, 768]⟩
abbrev S1x1024x512 : Shape := ⟨3, ![1, 1024, 512]⟩
abbrev S1x256x1024 : Shape := ⟨3, ![1, 256, 1024]⟩
abbrev S1x128x1024 : Shape := ⟨3, ![1, 128, 1024]⟩
abbrev S1024x128 : Shape := ⟨2, ![1024, 128]⟩
abbrev S1x3x256 : Shape := ⟨3, ![1, 3, 256]⟩
abbrev S1x31x256 : Shape := ⟨3, ![1, 31, 256]⟩
abbrev S1x256x256 : Shape := ⟨3, ![1, 256, 256]⟩
abbrev S1x1024x256 : Shape := ⟨3, ![1, 1024, 256]⟩
abbrev S2x544x1024 : Shape := ⟨3, ![2, 544, 1024]⟩
abbrev S2x544x256 : Shape := ⟨3, ![2, 544, 256]⟩
abbrev S2x8x536x256 : Shape := ⟨4, ![2, 8, 536, 256]⟩
abbrev S2x512x256 : Shape := ⟨3, ![2, 512, 256]⟩
abbrev S1x1x1x1024 : Shape := ⟨4, ![1, 1, 1, 1024]⟩
abbrev S1x1024 : Shape := ⟨2, ![1, 1024]⟩
abbrev S16x1024 : Shape := ⟨2, ![16, 1024]⟩
abbrev S16 : Shape := ⟨1, ![16]⟩
abbrev S16x1 : Shape := ⟨2, ![16, 1]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x544x1024 : Shape := ⟨3, ![1, 544, 1024]⟩
abbrev S544x1024 : Shape := ⟨2, ![544, 1024]⟩
abbrev S1024x512 : Shape := ⟨2, ![1024, 512]⟩
abbrev S544x512 : Shape := ⟨2, ![544, 512]⟩
abbrev S1024x768 : Shape := ⟨2, ![1024, 768]⟩
abbrev S544x768 : Shape := ⟨2, ![544, 768]⟩
abbrev S512x512 : Shape := ⟨2, ![512, 512]⟩
abbrev S512x768 : Shape := ⟨2, ![512, 768]⟩
abbrev S544x1 : Shape := ⟨2, ![544, 1]⟩
abbrev S544x256 : Shape := ⟨2, ![544, 256]⟩
abbrev S1x544x256 : Shape := ⟨3, ![1, 544, 256]⟩
abbrev S512x256 : Shape := ⟨2, ![512, 256]⟩
abbrev S1x512x256 : Shape := ⟨3, ![1, 512, 256]⟩
abbrev S1x1x256 : Shape := ⟨3, ![1, 1, 256]⟩
abbrev S1x256 : Shape := ⟨2, ![1, 256]⟩
abbrev S1x536x256 : Shape := ⟨3, ![1, 536, 256]⟩
abbrev S536x256 : Shape := ⟨2, ![536, 256]⟩
abbrev S1x1x536x256 : Shape := ⟨4, ![1, 1, 536, 256]⟩
abbrev S1x1x512x256 : Shape := ⟨4, ![1, 1, 512, 256]⟩
abbrev S256x256 : Shape := ⟨2, ![256, 256]⟩
abbrev S256x1024 : Shape := ⟨2, ![256, 1024]⟩
abbrev S512x128 : Shape := ⟨2, ![512, 128]⟩
abbrev S1x512x128 : Shape := ⟨3, ![1, 512, 128]⟩
abbrev S1x128 : Shape := ⟨2, ![1, 128]⟩
abbrev S128x1024 : Shape := ⟨2, ![128, 1024]⟩

abbrev nBuf : Space → Nat
  | .hbm => 89
  | .vmem => 48
  | .smem => 0
  | _ => 0

abbrev bufTy : (tb : Table) → Fin (tcTables nBuf tb) → BufTy
  | .hbm, ⟨0, _⟩ => ⟨S4x4096x1024, .f32⟩
  | .hbm, ⟨1, _⟩ => ⟨S2x4x6144, .f32⟩
  | .hbm, ⟨2, _⟩ => ⟨S2x6144, .f32⟩
  | .hbm, ⟨3, _⟩ => ⟨S4096x32, .f32⟩
  | .hbm, ⟨4, _⟩ => ⟨S4096x32, .f32⟩
  | .hbm, ⟨5, _⟩ => ⟨S2x1024, .f32⟩
  | .hbm, ⟨6, _⟩ => ⟨S2x1024x2464, .f32⟩
  | .hbm, ⟨7, _⟩ => ⟨S2x3x256, .f32⟩
  | .hbm, ⟨8, _⟩ => ⟨S2x256, .f32⟩
  | .hbm, ⟨9, _⟩ => ⟨S2x256x384, .f32⟩
  | .hbm, ⟨10, _⟩ => ⟨S2x128, .f32⟩
  | .hbm, ⟨11, _⟩ => ⟨S2x128x512, .f32⟩
  | .hbm, ⟨12, _⟩ => ⟨S2x31x256, .f32⟩
  | .hbm, ⟨13, _⟩ => ⟨S2x256, .f32⟩
  | .hbm, ⟨14, _⟩ => ⟨S2x256, .f32⟩
  | .hbm, ⟨15, _⟩ => ⟨S2x256, .f32⟩
  | .hbm, ⟨16, _⟩ => ⟨S2x256x256, .f32⟩
  | .hbm, ⟨17, _⟩ => ⟨S2x1024x32, .f32⟩
  | .hbm, ⟨18, _⟩ => ⟨S_, .f32⟩
  | .hbm, ⟨19, _⟩ => ⟨S2x1024x32, .f32⟩
  | .hbm, ⟨20, _⟩ => ⟨S2x256x4x96, .f32⟩
  | .hbm, ⟨21, _⟩ => ⟨S_, .f32⟩
  | .hbm, ⟨22, _⟩ => ⟨S2x256x4x32, .f32⟩
  | .hbm, ⟨23, _⟩ => ⟨S_, .f32⟩
  | .hbm, ⟨24, _⟩ => ⟨S2x256x4x64, .f32⟩
  | .hbm, ⟨25, _⟩ => ⟨S2x256x4x128, .f32⟩
  | .hbm, ⟨26, _⟩ => ⟨S2x256x512, .f32⟩
  | .hbm, ⟨27, _⟩ => ⟨S2x256x4x32, .f32⟩
  | .hbm, ⟨28, _⟩ => ⟨S2x256x4x8, .f32⟩
  | .hbm, ⟨29, _⟩ => ⟨S2x256x4x8, .f32⟩
  | .hbm, ⟨30, _⟩ => ⟨S2x256x4x8, .f32⟩
  | .hbm, ⟨31, _⟩ => ⟨S2x256x4x8, .f32⟩
  | .hbm, ⟨32, _⟩ => ⟨S2x256x4x8, .f32⟩
  | .hbm, ⟨33, _⟩ => ⟨S2x256x4x8, .f32⟩
  | .hbm, ⟨34, _⟩ => ⟨S2x256x4x32, .f32⟩
  | .hbm, ⟨35, _⟩ => ⟨S2x256x4x128, .f32⟩
  | .hbm, ⟨36, _⟩ => ⟨S2x128x4x128, .f32⟩
  | .hbm, ⟨37, _⟩ => ⟨S_, .f32⟩
  | .hbm, ⟨38, _⟩ => ⟨S2x128x4x64, .f32⟩
  | .hbm, ⟨39, _⟩ => ⟨S2x128x4x64, .f32⟩
  | .hbm, ⟨40, _⟩ => ⟨S2x128x4x128, .f32⟩
  | .hbm, ⟨41, _⟩ => ⟨S2x128x512, .f32⟩
  | .hbm, ⟨42, _⟩ => ⟨S2x128x4x64, .f32⟩
  | .hbm, ⟨43, _⟩ => ⟨S2x128x4x128, .f32⟩
  | .hbm, ⟨44, _⟩ => ⟨S2x128x512, .f32⟩
  | .hbm, ⟨45, _⟩ => ⟨S2x1024x768, .f32⟩
  | .hbm, ⟨46, _⟩ => ⟨S2x1024x768, .bf16⟩
  | .hbm, ⟨47, _⟩ => ⟨S2x1024x384, .f32⟩
  | .hbm, ⟨48, _⟩ => ⟨S2x1024x8, .f32⟩
  | .hbm, ⟨49, _⟩ => ⟨S2x1024x8, .f32⟩
  | .hbm, ⟨50, _⟩ => ⟨S2x1024x8, .f32⟩
  | .hbm, ⟨51, _⟩ => ⟨S2x1024x8, .f32⟩
  | .hbm, ⟨52, _⟩ => ⟨S2x1024x8, .f32⟩
  | .hbm, ⟨53, _⟩ => ⟨S2x1024x8, .f32⟩
  | .hbm, ⟨54, _⟩ => ⟨S2x1024x32, .f32⟩
  | .hbm, ⟨55, _⟩ => ⟨S2x1024x512, .f32⟩
  | .hbm, ⟨56, _⟩ => ⟨S2x1024x512, .bf16⟩
  | .hbm, ⟨57, _⟩ => ⟨S2x1024x512, .f32⟩
  | .hbm, ⟨58, _⟩ => ⟨S2x1024x512, .bf16⟩
  | .hbm, ⟨59, _⟩ => ⟨S2x1024x768, .f32⟩
  | .hbm, ⟨60, _⟩ => ⟨S2x1024x768, .bf16⟩
  | .hbm, ⟨61, _⟩ => ⟨S2x256x512, .f32⟩
  | .hbm, ⟨62, _⟩ => ⟨S2x256x1024, .f32⟩
  | .hbm, ⟨63, _⟩ => ⟨S2x256x1024, .bf16⟩
  | .hbm, ⟨64, _⟩ => ⟨S2x128x1024, .f32⟩
  | .hbm, ⟨65, _⟩ => ⟨S2x128x1024, .bf16⟩
  | .hbm, ⟨66, _⟩ => ⟨S2x256x256, .bf16⟩
  | .hbm, ⟨67, _⟩ => ⟨S_, .f32⟩
  | .hbm, ⟨68, _⟩ => ⟨S2x3x6144, .f32⟩
  | .hbm, ⟨69, _⟩ => ⟨S2x1x6144, .f32⟩
  | .hbm, ⟨70, _⟩ => ⟨S2x8x6144, .f32⟩
  | .hbm, ⟨71, _⟩ => ⟨S2x8x6x1024, .f32⟩
  | .hbm, ⟨72, _⟩ => ⟨S_, .f32⟩
  | .hbm, ⟨73, _⟩ => ⟨S4096x64, .f32⟩
  | .hbm, ⟨74, _⟩ => ⟨S_, .f32⟩
  | .hbm, ⟨75, _⟩ => ⟨S4096x32, .f32⟩
  | .hbm, ⟨76, _⟩ => ⟨S4096x128, .f32⟩
  | .hbm, ⟨77, _⟩ => ⟨S_, .f32⟩
  | .hbm, ⟨78, _⟩ => ⟨S4096x64, .f32⟩
  | .hbm, ⟨79, _⟩ => ⟨S4096x64, .f32⟩
  | .hbm, ⟨80, _⟩ => ⟨S4096x128, .f32⟩
  | .hbm, ⟨81, _⟩ => ⟨S4096x128, .f32⟩
  | .hbm, ⟨82, _⟩ => ⟨S4x4096x512, .bf16⟩
  | .hbm, ⟨83, _⟩ => ⟨S4x4096x512, .bf16⟩
  | .hbm, ⟨84, _⟩ => ⟨S4x4096x512, .bf16⟩
  | .hbm, ⟨85, _⟩ => ⟨S4x4096x512, .bf16⟩
  | .hbm, ⟨86, _⟩ => ⟨S4x4096x256, .bf16⟩
  | .hbm, ⟨87, _⟩ => ⟨S4x4096x256, .bf16⟩
  | .hbm, ⟨88, _⟩ => ⟨S4x4096x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S2x1024, .f32⟩
  | .local _ .vmem, ⟨9, _⟩ => ⟨S1x1024x768, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x768, .bf16⟩
  | .local _ .vmem, ⟨13, _⟩ => ⟨S2x256, .f32⟩
  | .local _ .vmem, ⟨14, _⟩ => ⟨S1x256x1024, .bf16⟩
  | .local _ .vmem, ⟨15, _⟩ => ⟨S2x128, .f32⟩
  | .local _ .vmem, ⟨16, _⟩ => ⟨S1x128x1024, .bf16⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1x3x256, .f32⟩
  | .local _ .vmem, ⟨24, _⟩ => ⟨S1x31x256, .f32⟩
  | .local _ .vmem, ⟨25, _⟩ => ⟨S2x256, .f32⟩
  | .local _ .vmem, ⟨26, _⟩ => ⟨S2x256, .f32⟩
  | .local _ .vmem, ⟨27, _⟩ => ⟨S2x256, .f32⟩
  | .local _ .vmem, ⟨28, _⟩ => ⟨S1x256x256, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x1024x512, .bf16⟩
  | .local _ .vmem, ⟨33, _⟩ => ⟨S1x1024x512, .bf16⟩
  | .local _ .vmem, ⟨34, _⟩ => ⟨S1x1024x512, .bf16⟩
  | .local _ .vmem, ⟨35, _⟩ => ⟨S1x1024x512, .bf16⟩
  | .local _ .vmem, ⟨36, _⟩ => ⟨S1x1024x512, .bf16⟩
  | .local _ .vmem, ⟨37, _⟩ => ⟨S1x1024x256, .bf16⟩
  | .local _ .vmem, ⟨38, _⟩ => ⟨S1x1024x256, .bf16⟩
  | .local _ .vmem, ⟨39, _⟩ => ⟨S1x1024x256, .bf16⟩
  | .local _ .vmem, ⟨40, _⟩ => ⟨S1x1024x256, .bf16⟩
  | .local _ .vmem, ⟨41, _⟩ => ⟨S1x1024x256, .bf16⟩
  | .local _ .vmem, ⟨42, _⟩ => ⟨S1x1024x256, .bf16⟩
  | .local _ .vmem, ⟨43, _⟩ => ⟨S2x544x1024, .bf16⟩
  | .local _ .vmem, ⟨44, _⟩ => ⟨S2x544x256, .f32⟩
  | .local _ .vmem, ⟨45, _⟩ => ⟨S2x544x256, .f32⟩
  | .local _ .vmem, ⟨46, _⟩ => ⟨S2x8x536x256, .f32⟩
  | .local _ .vmem, ⟨47, _⟩ => ⟨S2x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57_0 : Ref sig .tc := ⟨.hbm, 82, rfl⟩
abbrev main_v57_1 : Ref sig .tc := ⟨.hbm, 83, rfl⟩
abbrev main_v57_2 : Ref sig .tc := ⟨.hbm, 84, rfl⟩
abbrev main_v57_3 : Ref sig .tc := ⟨.hbm, 85, rfl⟩
abbrev main_v57_4 : Ref sig .tc := ⟨.hbm, 86, rfl⟩
abbrev main_v57_5 : Ref sig .tc := ⟨.hbm, 87, rfl⟩
abbrev main_v57_6 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_scratch3 : Ref sig .tc := ⟨.vmem, 46, rfl⟩
abbrev cc0_scratch4 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 1 → Memref sig .tc .vmem S1x3x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x31x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S2x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1024x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1024x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1024x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x1024x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x1024x256 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== InProjReferenceIdeal.lean ====
abbrev S4x4096x1024 : Shape := ⟨3, ![4, 4096, 1024]⟩
abbrev S2x4x6144 : Shape := ⟨3, ![2, 4, 6144]⟩
abbrev S2x6144 : Shape := ⟨2, ![2, 6144]⟩
abbrev S4096x32 : Shape := ⟨2, ![4096, 32]⟩
abbrev S2x1024 : Shape := ⟨2, ![2, 1024]⟩
abbrev S2x1024x2464 : Shape := ⟨3, ![2, 1024, 2464]⟩
abbrev S2x3x256 : Shape := ⟨3, ![2, 3, 256]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S2x31x256 : Shape := ⟨3, ![2, 31, 256]⟩
abbrev S2x256x256 : Shape := ⟨3, ![2, 256, 256]⟩
abbrev S1x4x6144 : Shape := ⟨3, ![1, 4, 6144]⟩
abbrev S4x6144 : Shape := ⟨2, ![4, 6144]⟩
abbrev S4x1024 : Shape := ⟨2, ![4, 1024]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2464 : Shape := ⟨3, ![1, 1024, 2464]⟩
abbrev S1024x2464 : Shape := ⟨2, ![1024, 2464]⟩
abbrev S4x4096x2464 : Shape := ⟨3, ![4, 4096, 2464]⟩
abbrev S4x4096x768 : Shape := ⟨3, ![4, 4096, 768]⟩
abbrev S4x4096x256 : Shape := ⟨3, ![4, 4096, 256]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x6144, .f32⟩
  | .hbm, ⟨2, _⟩ => ⟨S2x6144, .f32⟩
  | .hbm, ⟨3, _⟩ => ⟨S4096x32, .f32⟩
  | .hbm, ⟨4, _⟩ => ⟨S4096x32, .f32⟩
  | .hbm, ⟨5, _⟩ => ⟨S2x1024, .f32⟩
  | .hbm, ⟨6, _⟩ => ⟨S2x1024x2464, .f32⟩
  | .hbm, ⟨7, _⟩ => ⟨S2x3x256, .f32⟩
  | .hbm, ⟨8, _⟩ => ⟨S2x256, .f32⟩
  | .hbm, ⟨9, _⟩ => ⟨S2x256x384, .f32⟩
  | .hbm, ⟨10, _⟩ => ⟨S2x128, .f32⟩
  | .hbm, ⟨11, _⟩ => ⟨S2x128x512, .f32⟩
  | .hbm, ⟨12, _⟩ => ⟨S2x31x256, .f32⟩
  | .hbm, ⟨13, _⟩ => ⟨S2x256, .f32⟩
  | .hbm, ⟨14, _⟩ => ⟨S2x256, .f32⟩
  | .hbm, ⟨15, _⟩ => ⟨S2x256, .f32⟩
  | .hbm, ⟨16, _⟩ => ⟨S2x256x256, .f32⟩
  | .hbm, ⟨17, _⟩ => ⟨S1x4x6144, .f32⟩
  | .hbm, ⟨18, _⟩ => ⟨S4x6144, .f32⟩
  | .hbm, ⟨19, _⟩ => ⟨S4x1024, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1024, .f32⟩
  | .hbm, ⟨24, _⟩ => ⟨S4x1024, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S4x1x1024, .f32⟩
  | .hbm, ⟨29, _⟩ => ⟨S4x1x1024, .f32⟩
  | .hbm, ⟨30, _⟩ => ⟨S4x1x1024, .f32⟩
  | .hbm, ⟨31, _⟩ => ⟨S1x1024, .f32⟩
  | .hbm, ⟨32, _⟩ => ⟨S1024, .f32⟩
  | .hbm, ⟨33, _⟩ => ⟨S4x4096x1024, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x1024, .f32⟩
  | .hbm, ⟨45, _⟩ => ⟨S4x4096x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x1x1024, .f32⟩
  | .hbm, ⟨51, _⟩ => ⟨S4x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S1x1024x2464, .f32⟩
  | .hbm, ⟨57, _⟩ => ⟨S1024x2464, .f32⟩
  | .hbm, ⟨58, _⟩ => ⟨S4x4096x2464, .f32⟩
  | .hbm, ⟨59, _⟩ => ⟨S4x4096x768, .f32⟩
  | .hbm, ⟨60, _⟩ => ⟨S4x4096x256, .f32⟩
  | .hbm, ⟨61, _⟩ => ⟨S4x4096x256, .f32⟩
  | .hbm, ⟨62, _⟩ => ⟨S4x4096x256, .f32⟩
  | .hbm, ⟨63, _⟩ => ⟨S4x4096x256, .bf16⟩
  | .hbm, ⟨64, _⟩ => ⟨S4x4096x256, .bf16⟩
  | .hbm, ⟨65, _⟩ => ⟨S4x4096x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Proof.AttnRow.lean ====
/- One query's attention on the extended reals, as the kernel computes it: the scores of three stretches of keys, a
   running maximum, rescaled partial sums, and the quotient by lane 64 of the sum. -/
module

public import Idealize.ShloMosaic.PureOps.Ideal

@[expose] public section

noncomputable section

namespace Cert.AttnRow

open Idealize.ShloMosaic

/-- The score of a query row against a key row. -/
def score {n : ℕ} (q k : Fin n → EReal) : EReal := ∑ j, q j * k j

/-- The largest of a stretch of scores, started from the pattern of minus infinity. -/
def top {n : ℕ} (s : Fin n → EReal) : EReal := Finset.fold max (Ideal.ofBits .f32 0xFF800000#32) s Finset.univ

/-- The base-two exponential of a difference of scores times the scale `c`. -/
def ex (c a m : EReal) : EReal := FloatOps.exp2 (F := Ideal) (φ := .f32) ((a - m) * c)

/-- A stretch's weighted sum of values below the maximum `m`. -/
def part {n : ℕ} (c : EReal) (s : Fin n → EReal) (m : EReal) (v : Fin n → EReal) : EReal := ∑ x, ex c (s x) m * v x

/-- The running sum after the three stretches. -/
def acc {n0 n1 n2 : ℕ} (c : EReal) (s0 : Fin n0 → EReal) (s1 : Fin n1 → EReal) (s2 : Fin n2 → EReal)
    (v0 : Fin n0 → EReal) (v1 : Fin n1 → EReal) (v2 : Fin n2 → EReal) : EReal :=
  (part c s0 (top s0) v0 * ex c (top s0) (max (top s0) (top s1)) + part c s1 (max (top s0) (top s1)) v1)
      * ex c (max (top s0) (top s1)) (max (max (top s0) (top s1)) (top s2))
    + part c s2 (max (max (top s0) (top s1)) (top s2)) v2

/-- One head's output at a lane: the running sum times the reciprocal of the running sum at lane 64. -/
def head {n0 n1 n2 : ℕ} (c : EReal) (q : Fin 128 → EReal) (k0 v0 : Fin n0 → Fin 128 → EReal)
    (k1 v1 : Fin n1 → Fin 128 → EReal) (k2 v2 : Fin n2 → Fin 128 → EReal) (l : Fin 128) : EReal :=
  acc c (fun x => score q (k0 x)) (fun x => score q (k1 x)) (fun x => score q (k2 x)) (fun x => v0 x l) (fun x => v1 x l) (fun x => v2 x l)
    * Ideal.div 1 (acc c (fun x => score q (k0 x)) (fun x => score q (k1 x)) (fun x => score q (k2 x))
        (fun x => v0 x 64) (fun x => v1 x 64) (fun x => v2 x 64))

/-- The head function of equal rows. -/
theorem head_congr {n0 n1 n2 : ℕ} (c : EReal) {q q' : Fin 128 → EReal} {k0 v0 k0' v0' : Fin n0 → Fin 128 → EReal}
    {k1 v1 k1' v1' : Fin n1 → Fin 128 → EReal} {k2 v2 k2' v2' : Fin n2 → Fin 128 → EReal} (l : Fin 128)
    (hq : ∀ j, q j = q' j) (hk0 : ∀ x j, k0 x j = k0' x j) (hv0 : ∀ x j, v0 x j = v0' x j) (hk1 : ∀ x j, k1 x j = k1' x j)
    (hv1 : ∀ x j, v1 x j = v1' x j) (hk2 : ∀ x j, k2 x j = k2' x j) (hv2 : ∀ x j, v2 x j = v2' x j) :
    head c q k0 v0 k1 v1 k2 v2 l = head c q' k0' v0' k1' v1' k2' v2' l := by
  obtain rfl : q = q' := funext hq
  obtain rfl : k0 = k0' := funext fun x => funext (hk0 x)
  obtain rfl : v0 = v0' := funext fun x => funext (hv0 x)
  obtain rfl : k1 = k1' := funext fun x => funext (hk1 x)
  obtain rfl : v1 = v1' := funext fun x => funext (hv1 x)
  obtain rfl : k2 = k2' := funext fun x => funext (hk2 x)
  obtain rfl : v2 = v2' := funext fun x => funext (hv2 x)
  rfl

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals, as extended reals, is the real sum. -/
theorem coe_sum {n : ℕ} (f : Fin n → ℝ) : ∑ x, (f x : EReal) = ((∑ x, f x : ℝ) : EReal) := by
  classical
  induction (Finset.univ : Finset (Fin n)) using Finset.induction_on with
  | empty => simp
  | insert a s ha ih => rw [Finset.sum_insert ha, Finset.sum_insert ha, ih, EReal.coe_add]

theorem IsReal.sum {n : ℕ} {f : Fin n → EReal} (h : ∀ x, IsReal (f x)) : IsReal (∑ x, f x) := by
  choose r hr using h
  exact ⟨∑ x, r x, by simp only [hr]; exact coe_sum r⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩

theorem IsReal.div {x : EReal} (hx : IsReal x) {k : ℝ} (hk : k ≠ 0) : IsReal (Ideal.div x (k : EReal)) := by
  rw [Ideal.div_coe hk]; exact hx.mul ⟨_, rfl⟩

/-- The pattern of minus infinity. -/
theorem ninf : Ideal.ofBits .f32 0xFF800000#32 = ⊥ := by
  simp [Ideal.ofBits, Ideal.ieee]

/-- The pattern of ninety-six. -/
theorem ninety_six : Ideal.ofBits .f32 0x42C00000#32 = ((96 : ℝ) : EReal) := by
  simp [Ideal.ofBits, Ideal.ieee, -EReal.coe_mul]; norm_num

/-- The largest of a nonempty stretch of real scores is real. -/
theorem top_real {n : ℕ} (hn : 0 < n) {s : Fin n → EReal} (h : ∀ x, IsReal (s x)) : IsReal (top s) := by
  have hb : top s ≠ ⊥ := by
    refine (ne_of_gt ((Finset.lt_fold_max _).2 (Or.inr ⟨⟨0, hn⟩, Finset.mem_univ _, ?_⟩)))
    obtain ⟨r, hr⟩ := h ⟨0, hn⟩; rw [hr]; exact EReal.bot_lt_coe r
  have ht : top s ≠ ⊤ := by
    refine (ne_of_lt ((Finset.fold_max_lt _).2 ⟨?_, fun x _ => ?_⟩))
    · rw [ninf]; exact bot_lt_top
    · obtain ⟨r, hr⟩ := h x; rw [hr]; exact EReal.coe_lt_top r
  exact ⟨(top s).toReal, (EReal.coe_toReal ht hb).symm⟩

/-- A real is its larger with minus infinity. -/
theorem IsReal.max' {x : EReal} (hx : IsReal x) : IsReal (Max.max (Ideal.ofBits .f32 0xFF800000#32) x) := by
  rw [ninf, max_eq_right bot_le]; exact hx

/-- A sum times a nonnegative real is the sum of the products. -/
theorem sum_mul_coe {n : ℕ} (f : Fin n → EReal) {e : ℝ} (he : 0 ≤ e) : (∑ x, f x) * (e : EReal) = ∑ x, f x * (e : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (by exact_mod_cast he) (EReal.coe_ne_top e) _ _

theorem add_mul_coe (x y : EReal) {e : ℝ} (he : 0 ≤ e) : (x + y) * (e : EReal) = x * (e : EReal) + y * (e : EReal) :=
  EReal.right_distrib_of_nonneg_of_ne_top (by exact_mod_cast he) (EReal.coe_ne_top e) _ _

/-- The base-two exponential at the scale over the logarithm of two is the exponential at the scale. -/
theorem ex_coe (k a m : ℝ) : ex ((k * (Real.log 2)⁻¹ : ℝ) : EReal) (a : EReal) (m : EReal) = (Real.exp ((a - m) * k) : EReal) := by
  have h2 : Real.log 2 ≠ 0 := (Real.log_pos (by norm_num)).ne'
  show Ideal.exp2 (((a : EReal) - m) * ((k * (Real.log 2)⁻¹ : ℝ) : EReal)) = _
  rw [← EReal.coe_sub, ← EReal.coe_mul, Ideal.exp2_coe]
  refine congrArg _ ((Real.rpow_def_of_pos (by norm_num) _).trans (congrArg Real.exp ?_))
  field_simp

/-- A stretch's partial sum of real scores, with its weights as exponentials. -/
theorem part_coe {n : ℕ} (k : ℝ) (r : Fin n → ℝ) (m : ℝ) (v : Fin n → EReal) :
    part ((k * (Real.log 2)⁻¹ : ℝ) : EReal) (fun x => (r x : EReal)) (m : EReal) v
      = ∑ x, (Real.exp ((r x - m) * k) : EReal) * v x := by
  unfold part; exact Finset.sum_congr rfl fun x _ => by rw [ex_coe]

/-- Rescaling weights by a nonnegative real. -/
theorem rescale {n : ℕ} (w : Fin n → ℝ) (v : Fin n → EReal) {e : ℝ} (he : 0 ≤ e) :
    (∑ x, (w x : EReal) * v x) * (e : EReal) = ∑ x, ((w x * e : ℝ) : EReal) * v x := by
  rw [sum_mul_coe _ he]
  exact Finset.sum_congr rfl fun x _ => by rw [EReal.coe_mul, mul_right_comm]

/-- The running sum of real scores is one sum of exponentials below the last maximum. -/
theorem acc_coe {n0 n1 n2 : ℕ} (h0 : 0 < n0) (h1 : 0 < n1) (h2 : 0 < n2) (k : ℝ) (r0 : Fin n0 → ℝ) (r1 : Fin n1 → ℝ) (r2 : Fin n2 → ℝ) :
    ∃ m : ℝ, ∀ (v0 : Fin n0 → EReal) (v1 : Fin n1 → EReal) (v2 : Fin n2 → EReal),
      acc ((k * (Real.log 2)⁻¹ : ℝ) : EReal) (fun x => (r0 x : EReal)) (fun x => (r1 x : EReal)) (fun x => (r2 x : EReal)) v0 v1 v2
        = ∑ x, (Real.exp ((r0 x - m) * k) : EReal) * v0 x + ∑ x, (Real.exp ((r1 x - m) * k) : EReal) * v1 x
          + ∑ x, (Real.exp ((r2 x - m) * k) : EReal) * v2 x := by
  obtain ⟨m0, hm0⟩ := top_real h0 (s := fun x => (r0 x : EReal)) fun x => ⟨_, rfl⟩
  obtain ⟨a1, ha1⟩ := top_real h1 (s := fun x => (r1 x : EReal)) fun x => ⟨_, rfl⟩
  obtain ⟨a2, ha2⟩ := top_real h2 (s := fun x => (r2 x : EReal)) fun x => ⟨_, rfl⟩
  obtain ⟨m1, hm1⟩ := IsReal.max ⟨m0, rfl⟩ ⟨a1, rfl⟩
  obtain ⟨m2, hm2⟩ := IsReal.max ⟨m1, rfl⟩ ⟨a2, rfl⟩
  refine ⟨m2, fun v0 v1 v2 => ?_⟩
  have hw : ∀ (a m m' : ℝ), Real.exp ((a - m) * k) * Real.exp ((m - m') * k) = Real.exp ((a - m') * k) := fun a m m' => by
    rw [← Real.exp_add]; congr 1; ring
  unfold acc
  simp only [hm0, ha1, ha2, hm1, hm2, part_coe, ex_coe]
  rw [add_mul_coe _ _ (Real.exp_pos _).le, rescale _ _ (Real.exp_pos _).le, rescale _ _ (Real.exp_pos _).le,
    rescale _ _ (Real.exp_pos _).le]
  simp only [hw]

/-- The attention of one query over two stretches of keys as the reference writes it: scores over `K`, below `M`, and the
    quotient of every exponential by their sum. -/
def soft {nL nC : ℕ} (K M : EReal) (sL : Fin nL → EReal) (sC : Fin nC → EReal) (vL : Fin nL → EReal) (vC : Fin nC → EReal) : EReal :=
  ∑ x, vL x * Ideal.div (Ideal.exp (Ideal.div (sL x) K - M))
      (∑ y, Ideal.exp (Ideal.div (sL y) K - M) + ∑ y, Ideal.exp (Ideal.div (sC y) K - M))
    + ∑ x, vC x * Ideal.div (Ideal.exp (Ideal.div (sC x) K - M))
      (∑ y, Ideal.exp (Ideal.div (sL y) K - M) + ∑ y, Ideal.exp (Ideal.div (sC y) K - M))

/-- The weight of one key: its exponential over the sum of all of them. -/
def wt {nL nC : ℕ} (k : ℝ) (rL : Fin nL → ℝ) (rC : Fin nC → ℝ) (a : ℝ) : ℝ :=
  Real.exp (a * k) / (∑ y, Real.exp (rL y * k) + ∑ y, Real.exp (rC y * k))

/-- The sum of the exponentials below any real is positive, and the quotient by it is the weight. -/
theorem wt_eq {nL nC : ℕ} (hL : 0 < nL) (k m : ℝ) (rL : Fin nL → ℝ) (rC : Fin nC → ℝ) :
    0 < ∑ y, Real.exp ((rL y - m) * k) + ∑ y, Real.exp ((rC y - m) * k)
    ∧ ∀ a : ℝ, Real.exp ((a - m) * k) * (1 / (∑ y, Real.exp ((rL y - m) * k) + ∑ y, Real.exp ((rC y - m) * k))) = wt k rL rC a := by
  haveI : Nonempty (Fin nL) := ⟨⟨0, hL⟩⟩
  have hs : ∀ a : ℝ, Real.exp ((a - m) * k) = Real.exp (a * k) * Real.exp (-(m * k)) := fun a => by
    rw [← Real.exp_add]; congr 1; ring
  have hZ : 0 < ∑ y, Real.exp (rL y * k) + ∑ y, Real.exp (rC y * k) :=
    add_pos_of_pos_of_nonneg (Finset.sum_pos (fun y _ => Real.exp_pos _) Finset.univ_nonempty)
      (Finset.sum_nonneg fun y _ => (Real.exp_pos _).le)
  have he : 0 < Real.exp (-(m * k)) := Real.exp_pos _
  simp only [hs, ← Finset.sum_mul, ← add_mul]
  refine ⟨mul_pos hZ he, fun a => ?_⟩
  unfold wt
  field_simp

/-- The reference's form over real scores is the weighted sum. -/
theorem soft_coe {nL nC : ℕ} (hL : 0 < nL) (K m : ℝ) (hK : K ≠ 0) (rL : Fin nL → ℝ) (rC : Fin nC → ℝ)
    (vL : Fin nL → EReal) (vC : Fin nC → EReal) :
    soft (K : EReal) (m : EReal) (fun x => (rL x : EReal)) (fun x => (rC x : EReal)) vL vC
      = ∑ x, (wt (1 / K) rL rC (rL x) : EReal) * vL x + ∑ x, (wt (1 / K) rL rC (rC x) : EReal) * vC x := by
  have hx : ∀ a : ℝ, Ideal.exp (Ideal.div (a : EReal) (K : EReal) - (m : EReal)) = (Real.exp ((a - m * K) * (1 / K)) : EReal) := fun a => by
    rw [Ideal.div_coe hK, ← EReal.coe_mul, ← EReal.coe_sub, Ideal.exp_coe]
    refine congrArg (fun z : ℝ => ((Real.exp z : ℝ) : EReal)) ?_
    field_simp
  obtain ⟨hp, hw⟩ := wt_eq hL (1 / K) (m * K) rL rC
  unfold soft
  simp only [hx, coe_sum, ← EReal.coe_add]
  simp only [Ideal.div_coe hp.ne', ← EReal.coe_mul, hw, mul_comm (vL _), mul_comm (vC _)]

/-- A sum over 4096 keys in two halves. -/
theorem halves {M : Type*} [AddCommMonoid M] (f : Fin 4096 → M) :
    ∑ x, f x = ∑ x : Fin 2048, f ⟨x.val, by omega⟩ + ∑ x : Fin 2048, f ⟨2048 + x.val, by omega⟩ :=
  Fin.sum_univ_add (a := 2048) (b := 2048) f

/-- The kernel's head over the context keys and the two halves of the latent keys is the reference's attention, whatever
    real number the reference subtracts. -/
theorem acc_eq_soft (K : ℝ) (hK : K ≠ 0) {M : EReal} (hM : IsReal M) (sL : Fin 4096 → EReal) (sC : Fin 256 → EReal)
    (hL : ∀ x, IsReal (sL x)) (hC : ∀ x, IsReal (sC x)) (vL : Fin 4096 → EReal) (vC : Fin 256 → EReal) :
    acc ((1 / K * (Real.log 2)⁻¹ : ℝ) : EReal) sC (fun x : Fin 2048 => sL ⟨x.val, by omega⟩) (fun x : Fin 2048 => sL ⟨2048 + x.val, by omega⟩)
        vC (fun x : Fin 2048 => vL ⟨x.val, by omega⟩) (fun x : Fin 2048 => vL ⟨2048 + x.val, by omega⟩)
      * Ideal.div 1 (acc ((1 / K * (Real.log 2)⁻¹ : ℝ) : EReal) sC (fun x : Fin 2048 => sL ⟨x.val, by omega⟩)
          (fun x : Fin 2048 => sL ⟨2048 + x.val, by omega⟩) (fun _ => 1) (fun _ => 1) (fun _ => 1))
      = soft (K : EReal) M sL sC vL vC := by
  choose rL hrL using hL
  choose rC hrC using hC
  obtain rfl : sL = fun x => (rL x : EReal) := funext hrL
  obtain rfl : sC = fun x => (rC x : EReal) := funext hrC
  obtain ⟨m', rfl⟩ := hM
  rw [soft_coe (by norm_num) K m' hK]
  obtain ⟨m, hm⟩ := acc_coe (by norm_num) (by norm_num) (by norm_num) (1 / K) rC (fun x : Fin 2048 => rL ⟨x.val, by omega⟩)
    (fun x : Fin 2048 => rL ⟨2048 + x.val, by omega⟩)
  rw [hm, hm]
  obtain ⟨hp, hw⟩ := wt_eq (by norm_num) (1 / K) m rL rC
  have hD : ∑ x, (Real.exp ((rC x - m) * (1 / K)) : EReal) * 1 + ∑ x : Fin 2048, (Real.exp ((rL ⟨x.val, by omega⟩ - m) * (1 / K)) : EReal) * 1
      + ∑ x : Fin 2048, (Real.exp ((rL ⟨2048 + x.val, by omega⟩ - m) * (1 / K)) : EReal) * 1
      = ((∑ y, Real.exp ((rL y - m) * (1 / K)) + ∑ y, Real.exp ((rC y - m) * (1 / K)) : ℝ) : EReal) := by
    simp only [mul_one]
    rw [coe_sum, coe_sum (fun x : Fin 2048 => Real.exp ((rL ⟨x.val, by omega⟩ - m) * (1 / K))),
      coe_sum (fun x : Fin 2048 => Real.exp ((rL ⟨2048 + x.val, by omega⟩ - m) * (1 / K))), ← EReal.coe_add, ← EReal.coe_add,
      halves fun y => Real.exp ((rL y - m) * (1 / K))]
    exact congrArg _ (by ring)
  rw [hD, Ideal.div_coe hp.ne', one_mul]
  have hi : 0 ≤ 1 / (∑ y, Real.exp ((rL y - m) * (1 / K)) + ∑ y, Real.exp ((rC y - m) * (1 / K))) := (one_div_pos.2 hp).le
  rw [add_mul_coe _ _ hi, add_mul_coe _ _ hi, rescale _ _ hi, rescale _ _ hi, rescale _ _ hi]
  simp only [hw]
  rw [halves fun x => (wt (1 / K) rL rC (rL x) : EReal) * vL x, add_assoc]
  exact add_comm _ _

/-- The latent keys' numbers followed by the context keys'. -/
def join (f : Fin 4096 → EReal) (g : Fin 256 → EReal) (x : Fin 4352) : EReal :=
  if h : x.val < 4096 then f ⟨x.val, h⟩ else g ⟨x.val - 4096, by omega⟩

theorem join_left (f : Fin 4096 → EReal) (g : Fin 256 → EReal) (x : Fin 4096) : join f g ⟨x.val, by omega⟩ = f x := by
  unfold join; rw [dif_pos x.isLt]

theorem join_right (f : Fin 4096 → EReal) (g : Fin 256 → EReal) (x : Fin 256) : join f g ⟨4096 + x.val, by omega⟩ = g x := by
  unfold join
  rw [dif_neg (by simp)]
  exact congrArg g (Fin.ext (by simp))

theorem join_real {f : Fin 4096 → EReal} {g : Fin 256 → EReal} (hf : ∀ x, IsReal (f x)) (hg : ∀ x, IsReal (g x)) (x : Fin 4352) :
    IsReal (join f g x) := by
  unfold join
  split_ifs
  · exact hf _
  · exact hg _

/-- A sum over all keys is the latent keys' and the context keys'. -/
theorem sum_split (F : Fin 4352 → EReal) :
    ∑ x, F x = ∑ x : Fin 4096, F ⟨x.val, by omega⟩ + ∑ x : Fin 256, F ⟨4096 + x.val, by omega⟩ :=
  Fin.sum_univ_add (a := 4096) (b := 256) F

/-- The attention over the joined keys is the attention over the two stretches. -/
theorem soft_join (K M : EReal) (sL : Fin 4096 → EReal) (sC : Fin 256 → EReal) (vL : Fin 4096 → EReal) (vC : Fin 256 → EReal) :
    ∑ x, join vL vC x * Ideal.div (Ideal.exp (Ideal.div (join sL sC x) K - M)) (∑ y, Ideal.exp (Ideal.div (join sL sC y) K - M))
      = soft K M sL sC vL vC := by
  rw [sum_split]
  rw [sum_split fun y => Ideal.exp (Ideal.div (join sL sC y) K - M)]
  simp only [join_left, join_right]
  rfl

end Cert.AttnRow
-- ==== Proof.AttnHeads.lean ====
/- The four heads of a grid point of the attention kernel, entry by entry: each is the scalar head function of its rows. -/
module

public import proofs.«01_k».proof.Proof.Gen.AttentionIdeal.Skeleton
public import proofs.«01_k».proof.Proof.AttnRow
public import Idealize.ShloMosaic.Lib.Pointwise

@[expose] public section

set_option maxRecDepth 16384

noncomputable section

namespace Cert.AttentionIdeal.Block

open Idealize.ShloMosaic Idealize.ShloMosaic.TcCoe Idealize.SL.Sem
open Cert.AttentionIdeal Cert.AttentionIdeal.Gen
open Cert.AttnRow

/-- The kernel's constant: the scale over the logarithm of two, by name. -/
abbrev cst : EReal := Named.named (F := Ideal) κ "scale_log2e" (φ := .f32) 0x3E16C740#32

variable (q : FVec Ideal S1x1024x128 .bf16) (kc vc : FVec Ideal S1x256x128 .bf16) (k1 v1 k2 v2 : FVec Ideal S1x2048x128 .bf16)
  (r : Fin 1024) (l : Fin 128)

/-- The head function over the rows of a head's blocks. -/
def headAt : EReal := head cst (fun j => q (ix3 0 r j)) (fun x j => kc (ix3 0 x j)) (fun x j => vc (ix3 0 x j))
  (fun x j => k1 (ix3 0 x j)) (fun x j => v1 (ix3 0 x j)) (fun x j => k2 (ix3 0 x j)) (fun x j => v2 (ix3 0 x j)) l

set_option maxHeartbeats 2000000 in
/-- The first head. -/
theorem head1_at : k0_pay12 (F := Ideal) (k0_pay3 q) (k0_pay6 q kc vc) (k0_pay8 q kc k1) (k0_pay9 q kc k1 v1) (k0_pay10 q kc k1)
    k0_pay11 k2 v2 (ix2 r l) = headAt q kc vc k1 v1 k2 v2 r l := by
  pointwise [k0_pay12, k0_pay11, k0_pay10, k0_pay9, k0_pay8, k0_pay7, k0_pay6, k0_pay5, k0_pay4, k0_pay3]
  rfl

set_option maxHeartbeats 2000000 in
/-- The second head. -/
theorem head2_at : k0_pay23 (F := Ideal) (k0_pay18 (k0_pay13 q) (k0_pay15 q kc) k1)
    (k0_pay19 (k0_pay13 q) (k0_pay14 q kc) (k0_pay15 q kc) (k0_pay16 q kc) vc k1 v1)
    (k0_pay21 (k0_pay13 q) (k0_pay15 q kc) k1 k2) (k0_pay22 (k0_pay13 q) (k0_pay15 q kc) k1 k2)
    (Named.named κ "scale_log2e" 0x3E16C740#32) v2 (ix2 r l) = headAt q kc vc k1 v1 k2 v2 r l := by
  pointwise [k0_pay23, k0_pay22, k0_pay21, k0_pay20, k0_pay19, k0_pay18, k0_pay17, k0_pay16, k0_pay15, k0_pay14, k0_pay13]
  rfl

set_option maxHeartbeats 2000000 in
/-- The third head. -/
theorem head3_at : k0_pay30 (F := Ideal) (k0_pay29 (k0_pay24 q) (k0_pay26 q kc) (k0_pay27 q kc vc) (k0_pay28 k1)
    (constant S1024x2048 .f32 0x00000000#32) v1 k2 v2) (ix2 r l) = headAt q kc vc k1 v1 k2 v2 r l := by
  pointwise [k0_pay30, k0_pay29, k0_pay28, k0_pay27, k0_pay26, k0_pay25, k0_pay24]
  rfl

set_option maxHeartbeats 2000000 in
/-- The fourth head. -/
theorem head4_at : k0_pay38 (F := Ideal) (k0_pay31 q) (k0_pay33 q kc) (k0_pay34 q kc vc) (k0_pay36 q kc k1) (k0_pay37 q kc k1 v1)
    k2 v2 (ix2 r l) = headAt q kc vc k1 v1 k2 v2 r l := by
  pointwise [k0_pay38, k0_pay37, k0_pay36, k0_pay35, k0_pay34, k0_pay33, k0_pay32, k0_pay31]
  rfl

end Cert.AttentionIdeal.Block
-- ==== Proof.AttnPair.lean ====
/- The attention kernel's stores of two heads side by side, entry by entry. -/
module

public import proofs.«01_k».proof.Proof.Gen.AttentionIdeal.Skeleton
public import Idealize.ShloMosaic.Lib.Pointwise

@[expose] public section

set_option maxRecDepth 16384

noncomputable section

namespace Cert.AttentionIdeal.Block

open Idealize.ShloMosaic Idealize.ShloMosaic.TcCoe Idealize.SL.Sem
open Cert.AttentionIdeal Cert.AttentionIdeal.Gen

/-- A choice by lane below 64. -/
theorem select_lane (a b : EReal) (l : Fin 128) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide
  rw [h l]
  split_ifs <;> rfl

/-- A pair of heads stored side by side: lanes below 64 are the first head's, the others the second head's first 64. -/
theorem pair1_at (A B : FVec Ideal S1024x128 .f32) (r : Fin 1024) (l : Fin 128) :
    k0_pay1 (F := Ideal) (k0_pay39 A B) (ix3 0 r l) = if l.val < 64 then A (ix2 r l) else B (ix2 r ⟨(l.val + 128 - 64) % 128, by omega⟩) := by
  pointwise [k0_pay1, k0_pay39]
  exact select_lane _ _ l

/-- The same of the second store. -/
theorem pair2_at (A B : FVec Ideal S1024x128 .f32) (r : Fin 1024) (l : Fin 128) :
    k0_pay2 (F := Ideal) A B (iota .tc S1024x128 32 [1] iota_S1024x128_d1_w32) (ix3 0 r l) = if l.val < 64 then A (ix2 r l) else B (ix2 r ⟨(l.val + 128 - 64) % 128, by omega⟩) := by
  pointwise [k0_pay2]
  exact select_lane _ _ l

end Cert.AttentionIdeal.Block
-- ==== Proof.AttnStore.lean ====
/- What a grid point of the attention kernel stores, entry by entry, from the blocks it loads. -/
module

public import proofs.«01_k».proof.Proof.Gen.AttentionIdeal.Frame
public import proofs.«01_k».proof.Proof.AttnHeads
public import proofs.«01_k».proof.Proof.AttnPair
public import Idealize.ShloMosaic.Lib.Pipeline.ValueKit
public import Idealize.ShloMosaic.Lib.Pointwise

@[expose] public section

set_option maxRecDepth 16384

noncomputable section

namespace Cert.AttentionIdeal.Block

open Idealize.ShloMosaic Idealize.ShloMosaic.TcCoe Idealize.SL.Sem
open Cert.AttentionIdeal Cert.AttentionIdeal.Gen
open Cert.AttnRow

/-- Head `h` of a block's query row `r` at lane `d`, from the packed blocks. -/
def laneAt (x0 : FVec Ideal S1x1024x512 .bf16) (x1 x2 : FVec Ideal S1x4096x512 .bf16) (x3 x4 : FVec Ideal S1x256x512 .bf16)
    (r : Fin 1024) (h : Fin 4) (d : Fin 128) : EReal :=
  head cst (fun j => x0 (ix3 0 r ⟨h.val * 128 + j.val, by omega⟩))
    (fun x j => x3 (ix3 0 x ⟨h.val * 128 + j.val, by omega⟩)) (fun x j => x4 (ix3 0 x ⟨h.val * 128 + j.val, by omega⟩))
    (fun (x : Fin 2048) j => x1 (ix3 0 ⟨x.val, by omega⟩ ⟨h.val * 128 + j.val, by omega⟩))
    (fun (x : Fin 2048) j => x2 (ix3 0 ⟨x.val, by omega⟩ ⟨h.val * 128 + j.val, by omega⟩))
    (fun (x : Fin 2048) j => x1 (ix3 0 ⟨2048 + x.val, by omega⟩ ⟨h.val * 128 + j.val, by omega⟩))
    (fun (x : Fin 2048) j => x2 (ix3 0 ⟨2048 + x.val, by omega⟩ ⟨h.val * 128 + j.val, by omega⟩)) d

/-- A head of loaded rows is the head of the packed blocks, where the loads read as their lanes. -/
theorem headAt_eq (q : FVec Ideal S1x1024x128 .bf16) (kc vc : FVec Ideal S1x256x128 .bf16) (k1 v1 k2 v2 : FVec Ideal S1x2048x128 .bf16)
    (x0 : FVec Ideal S1x1024x512 .bf16) (x1 x2 : FVec Ideal S1x4096x512 .bf16) (x3 x4 : FVec Ideal S1x256x512 .bf16)
    (r : Fin 1024) (l : Fin 128) (h : Fin 4)
    (hq : ∀ j : Fin 128, q (ix3 0 r j) = x0 (ix3 0 r ⟨h.val * 128 + j.val, by omega⟩))
    (hkc : ∀ (x : Fin 256) (j : Fin 128), kc (ix3 0 x j) = x3 (ix3 0 x ⟨h.val * 128 + j.val, by omega⟩))
    (hvc : ∀ (x : Fin 256) (j : Fin 128), vc (ix3 0 x j) = x4 (ix3 0 x ⟨h.val * 128 + j.val, by omega⟩))
    (hk1 : ∀ (x : Fin 2048) (j : Fin 128), k1 (ix3 0 x j) = x1 (ix3 0 ⟨x.val, by omega⟩ ⟨h.val * 128 + j.val, by omega⟩))
    (hv1 : ∀ (x : Fin 2048) (j : Fin 128), v1 (ix3 0 x j) = x2 (ix3 0 ⟨x.val, by omega⟩ ⟨h.val * 128 + j.val, by omega⟩))
    (hk2 : ∀ (x : Fin 2048) (j : Fin 128), k2 (ix3 0 x j) = x1 (ix3 0 ⟨2048 + x.val, by omega⟩ ⟨h.val * 128 + j.val, by omega⟩))
    (hv2 : ∀ (x : Fin 2048) (j : Fin 128), v2 (ix3 0 x j) = x2 (ix3 0 ⟨2048 + x.val, by omega⟩ ⟨h.val * 128 + j.val, by omega⟩)) :
    headAt q kc vc k1 v1 k2 v2 r l = laneAt x0 x1 x2 x3 x4 r h l := by
  unfold headAt laneAt
  simp only [hq, hkc, hvc, hk1, hv1, hk2, hv2]

/-- The first store: heads one and two. -/
theorem store1_at (q : FVec Ideal S1x1024x128 .bf16) (kc vc : FVec Ideal S1x256x128 .bf16) (k1 v1 k2 v2 : FVec Ideal S1x2048x128 .bf16)
    (q' : FVec Ideal S1x1024x128 .bf16) (kc' vc' : FVec Ideal S1x256x128 .bf16) (k1' v1' k2' v2' : FVec Ideal S1x2048x128 .bf16)
    (r : Fin 1024) (l : Fin 128) :
    k0_pay1 (F := Ideal) (k0_pay39 (k0_pay12 (k0_pay3 q) (k0_pay6 q kc vc) (k0_pay8 q kc k1) (k0_pay9 q kc k1 v1) (k0_pay10 q kc k1)
      k0_pay11 k2 v2) (k0_pay23 (k0_pay18 (k0_pay13 q') (k0_pay15 q' kc') k1')
        (k0_pay19 (k0_pay13 q') (k0_pay14 q' kc') (k0_pay15 q' kc') (k0_pay16 q' kc') vc' k1' v1')
        (k0_pay21 (k0_pay13 q') (k0_pay15 q' kc') k1' k2') (k0_pay22 (k0_pay13 q') (k0_pay15 q' kc') k1' k2')
        (Named.named κ "scale_log2e" 0x3E16C740#32) v2')) (ix3 0 r l)
      = if l.val < 64 then headAt q kc vc k1 v1 k2 v2 r l
        else headAt q' kc' vc' k1' v1' k2' v2' r ⟨(l.val + 128 - 64) % 128, by omega⟩ := by
  rw [pair1_at, head1_at, head2_at]

/-- The second store: heads three and four. -/
theorem store2_at (q : FVec Ideal S1x1024x128 .bf16) (kc vc : FVec Ideal S1x256x128 .bf16) (k1 v1 k2 v2 : FVec Ideal S1x2048x128 .bf16)
    (q' : FVec Ideal S1x1024x128 .bf16) (kc' vc' : FVec Ideal S1x256x128 .bf16) (k1' v1' k2' v2' : FVec Ideal S1x2048x128 .bf16)
    (r : Fin 1024) (l : Fin 128) :
    k0_pay2 (F := Ideal) (k0_pay30 (k0_pay29 (k0_pay24 q) (k0_pay26 q kc) (k0_pay27 q kc vc) (k0_pay28 k1)
      (constant S1024x2048 .f32 0x00000000#32) v1 k2 v2))
      (k0_pay38 (k0_pay31 q') (k0_pay33 q' kc') (k0_pay34 q' kc' vc') (k0_pay36 q' kc' k1') (k0_pay37 q' kc' k1' v1') k2' v2')
      (iota .tc S1024x128 32 [1] iota_S1024x128_d1_w32) (ix3 0 r l)
      = if l.val < 64 then headAt q kc vc k1 v1 k2 v2 r l
        else headAt q' kc' vc' k1' v1' k2' v2' r ⟨(l.val + 128 - 64) % 128, by omega⟩ := by
  rw [pair2_at, head3_at, head4_at]

/-- Two heads side by side are lanes of the packed heads. -/
theorem pick (X0 : FVec Ideal S1x1024x512 .bf16) (X1 X2 : FVec Ideal S1x4096x512 .bf16) (X3 X4 : FVec Ideal S1x256x512 .bf16)
    (r : Fin 1024) (l : Fin 128) (p : Fin 2) (A B : Fin 128 → EReal)
    (hA : ∀ d, A d = laneAt X0 X1 X2 X3 X4 r ⟨2 * p.val, by omega⟩ d) (hB : ∀ d, B d = laneAt X0 X1 X2 X3 X4 r ⟨2 * p.val + 1, by omega⟩ d)
    (L : Fin 256) (hL : L.val = 128 * p.val + l.val) :
    (if l.val < 64 then A l else B ⟨(l.val + 128 - 64) % 128, by omega⟩)
      = laneAt X0 X1 X2 X3 X4 r ⟨L.val / 64, by omega⟩ ⟨L.val % 64, by omega⟩ := by
  split_ifs
  · rw [hA]
    congr 1 <;> exact Fin.ext (by simp only; omega)
  · rw [hB]
    congr 1 <;> exact Fin.ext (by simp only; omega)

/-- What is stored at lane `l` of row `r`: lane `l % 64` of head `l / 64`. -/
theorem out_at (X0 : FVec Ideal S1x1024x512 .bf16) (X1 X2 : FVec Ideal S1x4096x512 .bf16) (X3 X4 : FVec Ideal S1x256x512 .bf16)
    (r : Fin 1024) (l : Fin 256) :
    (out0_5 (F := Ideal) X0 X1 X2 X3 X4 : FVec Ideal S1x1024x256 .bf16) (ix3 0 r l)
      = laneAt X0 X1 X2 X3 X4 r ⟨l.val / 64, by omega⟩ ⟨l.val % 64, by omega⟩ := by
  unfold_out out0_5
  canon_tiles y g
  case piece0 =>
    idx_vars y
    obtain rfl : y0 = 0 := Subsingleton.elim _ _
    have hL : l.val = 128 + y2.val := by simpa using g2
    obtain rfl : r = y1 := Fin.ext (by simpa using g1)
    refine Eq.trans (store2_at _ _ _ _ _ _ _ _ _ _ _ _ _ _ r y2) ?_
    refine pick X0 X1 X2 X3 X4 r y2 1 _ _ (fun d => headAt_eq _ _ _ _ _ _ _ X0 X1 X2 X3 X4 r d 2 ?_ ?_ ?_ ?_ ?_ ?_ ?_)
      (fun d => headAt_eq _ _ _ _ _ _ _ X0 X1 X2 X3 X4 r d 3 ?_ ?_ ?_ ?_ ?_ ?_ ?_) l hL
    all_goals (intros; pointwise)
  case piece1 =>
    idx_vars y
    obtain rfl : y0 = 0 := Subsingleton.elim _ _
    have hL : l.val = 0 + y2.val := by simpa using g2
    obtain rfl : r = y1 := Fin.ext (by simpa using g1)
    refine Eq.trans (store1_at _ _ _ _ _ _ _ _ _ _ _ _ _ _ r y2) ?_
    refine pick X0 X1 X2 X3 X4 r y2 0 _ _ (fun d => headAt_eq _ _ _ _ _ _ _ X0 X1 X2 X3 X4 r d 0 ?_ ?_ ?_ ?_ ?_ ?_ ?_)
      (fun d => headAt_eq _ _ _ _ _ _ _ X0 X1 X2 X3 X4 r d 1 ?_ ?_ ?_ ?_ ?_ ?_ ?_) l hL
    all_goals (intros; pointwise)

end Cert.AttentionIdeal.Block
-- ==== Proof.AttnHost.lean ====
/- The packed operands of the attention kernel: four heads side by side, each in 128 lanes, read entry by entry from the
   program's arguments. -/
module

public import proofs.«01_k».proof.Proof.Gen.AttentionIdeal.Frame
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.AttentionIdeal.Block

open Idealize.ShloMosaic Idealize.ShloMosaic.TcCoe Idealize.SL.Sem
open Idealize.ShloMosaic.Pipeline (Dat)
open Cert.AttentionIdeal Cert.AttentionIdeal.Gen

/-- The contents of the program's buffers. -/
abbrev Vals := Valuation τ sig (Elt Ideal)

/-- A packed key or query lane: the unrotated part, the rotary part, then zeros. -/
def packed (n : Fin 64 → EReal) (r : Fin 32 → EReal) (j : Fin 128) : EReal :=
  if h : j.val < 64 then n ⟨j.val, h⟩ else if h' : j.val - 64 < 32 then r ⟨j.val - 64, h'⟩ else 0

/-- A packed value lane: the value, then a one, then zeros. -/
def packedV (n : Fin 64 → EReal) (j : Fin 128) : EReal :=
  if h : j.val < 64 then n ⟨j.val, h⟩ else if j.val - 64 < 1 then 1 else 0

/-- The queries. -/
theorem q_at (W : Vals) (b : Fin 4) (p : Fin 4096) (h : Fin 4) (j : Fin 128) :
    (StableHlo.after hostOps0 W (Proc.devRef .tc main_v3) : FVec Ideal S4x4096x512 .bf16) (ix3 b p ⟨h.val * 128 + j.val, by omega⟩)
      = packed (fun x => (W (Proc.devRef .tc main_arg0) : FVec Ideal S4x4096x4x64 .f32) (ix4 b p h x))
        (fun x => (W (Proc.devRef .tc main_arg1) : FVec Ideal S4x4096x4x32 .f32) (ix4 b p h x)) j := by
  have e1 : (h.val * 128 + j.val) % 128 = j.val := by omega
  have e2 : (h.val * 128 + j.val) / 128 = h.val := by omega
  after_reads_at
  after_reads_simp
  simp only [e1, e2]
  pointwise
  rfl

/-- The latent keys: all heads share the rotary part. -/
theorem k_at (W : Vals) (b : Fin 4) (p : Fin 4096) (h : Fin 4) (j : Fin 128) :
    (StableHlo.after hostOps0 W (Proc.devRef .tc main_v9) : FVec Ideal S4x4096x512 .bf16) (ix3 b p ⟨h.val * 128 + j.val, by omega⟩)
      = packed (fun x => (W (Proc.devRef .tc main_arg2) : FVec Ideal S4x4096x4x64 .f32) (ix4 b p h x))
        (fun x => (W (Proc.devRef .tc main_arg3) : FVec Ideal S4x4096x32 .f32) (ix3 b p x)) j := by
  have e1 : (h.val * 128 + j.val) % 128 = j.val := by omega
  have e2 : (h.val * 128 + j.val) / 128 = h.val := by omega
  after_reads_at
  after_reads_simp
  simp only [e1, e2]
  pointwise
  rfl

/-- The latent values. -/
theorem v_at (W : Vals) (b : Fin 4) (p : Fin 4096) (h : Fin 4) (j : Fin 128) :
    (StableHlo.after hostOps0 W (Proc.devRef .tc main_v14) : FVec Ideal S4x4096x512 .bf16) (ix3 b p ⟨h.val * 128 + j.val, by omega⟩)
      = packedV (fun x => (W (Proc.devRef .tc main_arg4) : FVec Ideal S4x4096x4x64 .f32) (ix4 b p h x)) j := by
  have e1 : (h.val * 128 + j.val) % 128 = j.val := by omega
  have e2 : (h.val * 128 + j.val) / 128 = h.val := by omega
  after_reads_at
  after_reads_simp
  simp only [e1, e2]
  pointwise
  rfl

/-- The context keys. -/
theorem kc_at (W : Vals) (b : Fin 4) (p : Fin 256) (h : Fin 4) (j : Fin 128) :
    (StableHlo.after hostOps0 W (Proc.devRef .tc main_v20) : FVec Ideal S4x256x512 .bf16) (ix3 b p ⟨h.val * 128 + j.val, by omega⟩)
      = packed (fun x => (W (Proc.devRef .tc main_arg5) : FVec Ideal S4x256x4x64 .f32) (ix4 b p h x))
        (fun x => (W (Proc.devRef .tc main_arg6) : FVec Ideal S4x256x32 .f32) (ix3 b p x)) j := by
  have e1 : (h.val * 128 + j.val) % 128 = j.val := by omega
  have e2 : (h.val * 128 + j.val) / 128 = h.val := by omega
  after_reads_at
  after_reads_simp
  simp only [e1, e2]
  pointwise
  rfl

/-- The context values. -/
theorem vc_at (W : Vals) (b : Fin 4) (p : Fin 256) (h : Fin 4) (j : Fin 128) :
    (StableHlo.after hostOps0 W (Proc.devRef .tc main_v25) : FVec Ideal S4x256x512 .bf16) (ix3 b p ⟨h.val * 128 + j.val, by omega⟩)
      = packedV (fun x => (W (Proc.devRef .tc main_arg7) : FVec Ideal S4x256x4x64 .f32) (ix4 b p h x)) j := by
  have e1 : (h.val * 128 + j.val) % 128 = j.val := by omega
  have e2 : (h.val * 128 + j.val) / 128 = h.val := by omega
  after_reads_at
  after_reads_simp
  simp only [e1, e2]
  pointwise
  rfl

end Cert.AttentionIdeal.Block
-- ==== Proof.AttnValue.lean ====
/- The result array of the attention kernel after its run: every entry the head function of packed rows of the arguments. -/
module

public import proofs.«01_k».proof.Proof.Gen.AttentionIdeal.Value
public import proofs.«01_k».proof.Proof.AttnStore
public import proofs.«01_k».proof.Proof.AttnHost

@[expose] public section

set_option maxRecDepth 16384

noncomputable section

namespace Cert.AttentionIdeal.Block

open Idealize.ShloMosaic Idealize.ShloMosaic.TcCoe Idealize.SL.Sem
open Idealize.ShloMosaic.Pipeline (Dat)
open Cert.AttentionIdeal Cert.AttentionIdeal.Gen
open Cert.AttnRow

variable (m : (ℓ : Loc nD τ sig) → Buf (Elt Ideal) ℓ)

/-- Which block each window reads or writes at a grid point. -/
theorem idx : ∀ t : Fin cfg0.N, win0_0.index t = ![(grid0.coords t 0).val, (grid0.coords t 2).val, 0]
    ∧ win0_1.index t = ![(grid0.coords t 0).val, 0, 0]
    ∧ win0_2.index t = ![(grid0.coords t 0).val, 0, 0]
    ∧ win0_3.index t = ![(grid0.coords t 0).val, 0, 0]
    ∧ win0_4.index t = ![(grid0.coords t 0).val, 0, 0]
    ∧ win0_5.index t = ![(grid0.coords t 0).val, (grid0.coords t 2).val, 0] :=
  (by decide +kernel : ∀ t : Fin grid0.N, _)

/-- The position a block's row `r` stands for. -/
def row (t : Fin cfg0.N) (r : Fin 1024) : Fin 4096 := ⟨(grid0.coords t 2).val * 1024 + r, by
  have h : (grid0.coords t 2).val < 4 := (grid0.coords t 2).isLt
  omega⟩

/-! The packed rows of the arguments. -/

/-- A query's packed lanes. -/
def qRow (c : Dev nD) (b : Fin 4) (p : Fin 4096) (h : Fin 4) : Fin 128 → EReal :=
  packed (fun x => (m ((c : Thread nD τ).loc main_arg0) : FVec Ideal S4x4096x4x64 .f32) (ix4 b p h x))
    (fun x => (m ((c : Thread nD τ).loc main_arg1) : FVec Ideal S4x4096x4x32 .f32) (ix4 b p h x))

/-- A latent key's packed lanes. -/
def kRow (c : Dev nD) (b : Fin 4) (h : Fin 4) (p : Fin 4096) : Fin 128 → EReal :=
  packed (fun x => (m ((c : Thread nD τ).loc main_arg2) : FVec Ideal S4x4096x4x64 .f32) (ix4 b p h x))
    (fun x => (m ((c : Thread nD τ).loc main_arg3) : FVec Ideal S4x4096x32 .f32) (ix3 b p x))

/-- A latent value's packed lanes. -/
def vRow (c : Dev nD) (b : Fin 4) (h : Fin 4) (p : Fin 4096) : Fin 128 → EReal :=
  packedV (fun x => (m ((c : Thread nD τ).loc main_arg4) : FVec Ideal S4x4096x4x64 .f32) (ix4 b p h x))

/-- A context key's packed lanes. -/
def kcRow (c : Dev nD) (b : Fin 4) (h : Fin 4) (p : Fin 256) : Fin 128 → EReal :=
  packed (fun x => (m ((c : Thread nD τ).loc main_arg5) : FVec Ideal S4x256x4x64 .f32) (ix4 b p h x))
    (fun x => (m ((c : Thread nD τ).loc main_arg6) : FVec Ideal S4x256x32 .f32) (ix3 b p x))

/-- A context value's packed lanes. -/
def vcRow (c : Dev nD) (b : Fin 4) (h : Fin 4) (p : Fin 256) : Fin 128 → EReal :=
  packedV (fun x => (m ((c : Thread nD τ).loc main_arg7) : FVec Ideal S4x256x4x64 .f32) (ix4 b p h x))

/-! A block's entry is the array's entry at the block's place. -/

theorem read0 (X : FVec Ideal S4x4096x512 .bf16) (t : Fin cfg0.N) (r : Fin 1024) (k : Fin 512) :
    (((cfg0.win 0).blk t).view.read (Elt Ideal) X : FVec Ideal S1x1024x512 .bf16) (ix3 0 r k) = X (ix3 (grid0.coords t 0) (row t r) k) := by
  blk_ext [row, idx t]

theorem read1 (X : FVec Ideal S4x4096x512 .bf16) (t : Fin cfg0.N) (x : Fin 4096) (k : Fin 512) :
    (((cfg0.win 1).blk t).view.read (Elt Ideal) X : FVec Ideal S1x4096x512 .bf16) (ix3 0 x k) = X (ix3 (grid0.coords t 0) x k) := by
  blk_ext [idx t]

theorem read2 (X : FVec Ideal S4x4096x512 .bf16) (t : Fin cfg0.N) (x : Fin 4096) (k : Fin 512) :
    (((cfg0.win 2).blk t).view.read (Elt Ideal) X : FVec Ideal S1x4096x512 .bf16) (ix3 0 x k) = X (ix3 (grid0.coords t 0) x k) := by
  blk_ext [idx t]

theorem read3 (X : FVec Ideal S4x256x512 .bf16) (t : Fin cfg0.N) (x : Fin 256) (k : Fin 512) :
    (((cfg0.win 3).blk t).view.read (Elt Ideal) X : FVec Ideal S1x256x512 .bf16) (ix3 0 x k) = X (ix3 (grid0.coords t 0) x k) := by
  blk_ext [idx t]

theorem read4 (X : FVec Ideal S4x256x512 .bf16) (t : Fin cfg0.N) (x : Fin 256) (k : Fin 512) :
    (((cfg0.win 4).blk t).view.read (Elt Ideal) X : FVec Ideal S1x256x512 .bf16) (ix3 0 x k) = X (ix3 (grid0.coords t 0) x k) := by
  blk_ext [idx t]

/-! The blocks of the windows, entry by entry: packed rows of the arguments. -/

/-- Window 0: the queries. -/
theorem blk0 (c : Dev nD) (t : Fin cfg0.N) (x : Fin 1024) (h : Fin 4) (j : Fin 128) :
    (iblk m c 0 t : FVec Ideal S1x1024x512 .bf16) (ix3 0 x ⟨h.val * 128 + j.val, by omega⟩) = qRow m c (grid0.coords t 0) (row t x) h j :=
  (read0 (V m c main_v3) t x ⟨h.val * 128 + j.val, by omega⟩).trans (q_at (fun b => m (c, b)) (grid0.coords t 0) (row t x) h j)

/-- Window 1: the latent keys. -/
theorem blk1 (c : Dev nD) (t : Fin cfg0.N) (x : Fin 4096) (h : Fin 4) (j : Fin 128) :
    (iblk m c 1 t : FVec Ideal S1x4096x512 .bf16) (ix3 0 x ⟨h.val * 128 + j.val, by omega⟩) = kRow m c (grid0.coords t 0) h x j :=
  (read1 (V m c main_v9) t x ⟨h.val * 128 + j.val, by omega⟩).trans (k_at (fun b => m (c, b)) (grid0.coords t 0) x h j)

/-- Window 2: the latent values. -/
theorem blk2 (c : Dev nD) (t : Fin cfg0.N) (x : Fin 4096) (h : Fin 4) (j : Fin 128) :
    (iblk m c 2 t : FVec Ideal S1x4096x512 .bf16) (ix3 0 x ⟨h.val * 128 + j.val, by omega⟩) = vRow m c (grid0.coords t 0) h x j :=
  (read2 (V m c main_v14) t x ⟨h.val * 128 + j.val, by omega⟩).trans (v_at (fun b => m (c, b)) (grid0.coords t 0) x h j)

/-- Window 3: the context keys. -/
theorem blk3 (c : Dev nD) (t : Fin cfg0.N) (x : Fin 256) (h : Fin 4) (j : Fin 128) :
    (iblk m c 3 t : FVec Ideal S1x256x512 .bf16) (ix3 0 x ⟨h.val * 128 + j.val, by omega⟩) = kcRow m c (grid0.coords t 0) h x j :=
  (read3 (V m c main_v20) t x ⟨h.val * 128 + j.val, by omega⟩).trans (kc_at (fun b => m (c, b)) (grid0.coords t 0) x h j)

/-- Window 4: the context values. -/
theorem blk4 (c : Dev nD) (t : Fin cfg0.N) (x : Fin 256) (h : Fin 4) (j : Fin 128) :
    (iblk m c 4 t : FVec Ideal S1x256x512 .bf16) (ix3 0 x ⟨h.val * 128 + j.val, by omega⟩) = vcRow m c (grid0.coords t 0) h x j :=
  (read4 (V m c main_v25) t x ⟨h.val * 128 + j.val, by omega⟩).trans (vc_at (fun b => m (c, b)) (grid0.coords t 0) x h j)

/-- The result array's entry: the head function of the packed rows, at the entry's head and lane. -/
def entry (c : Dev nD) (b : Fin 4) (p : Fin 4096) (l : Fin 256) : EReal :=
  head cst (qRow m c b p ⟨l.val / 64, by omega⟩)
    (kcRow m c b ⟨l.val / 64, by omega⟩) (vcRow m c b ⟨l.val / 64, by omega⟩)
    (fun x : Fin 2048 => kRow m c b ⟨l.val / 64, by omega⟩ ⟨x.val, by omega⟩)
    (fun x : Fin 2048 => vRow m c b ⟨l.val / 64, by omega⟩ ⟨x.val, by omega⟩)
    (fun x : Fin 2048 => kRow m c b ⟨l.val / 64, by omega⟩ ⟨2048 + x.val, by omega⟩)
    (fun x : Fin 2048 => vRow m c b ⟨l.val / 64, by omega⟩ ⟨2048 + x.val, by omega⟩) ⟨l.val % 64, by omega⟩

/-- The result array. -/
def out (c : Dev nD) : FVec Ideal S4x4096x256 .bf16 := fun i => entry m c (i 0) (i 1) (i 2)

/-- What a grid point stores is the result array's block. -/
theorem point (c : Dev nD) (t : Fin cfg0.N) (r : Fin 1024) (l : Fin 256) :
    (out0_5 (F := Ideal) (iblk m c 0 t) (iblk m c 1 t) (iblk m c 2 t) (iblk m c 3 t) (iblk m c 4 t) : FVec Ideal S1x1024x256 .bf16) (ix3 0 r l)
      = entry m c (grid0.coords t 0) (row t r) l := by
  refine (out_at (iblk m c 0 t) (iblk m c 1 t) (iblk m c 2 t) (iblk m c 3 t) (iblk m c 4 t) r l).trans ?_
  unfold laneAt entry
  exact head_congr cst _ (fun j => blk0 m c t r ⟨l.val / 64, by omega⟩ j) (fun x j => blk3 m c t x ⟨l.val / 64, by omega⟩ j)
    (fun x j => blk4 m c t x ⟨l.val / 64, by omega⟩ j) (fun x j => blk1 m c t ⟨x.val, by omega⟩ ⟨l.val / 64, by omega⟩ j)
    (fun x j => blk2 m c t ⟨x.val, by omega⟩ ⟨l.val / 64, by omega⟩ j) (fun x j => blk1 m c t ⟨2048 + x.val, by omega⟩ ⟨l.val / 64, by omega⟩ j)
    (fun x j => blk2 m c t ⟨2048 + x.val, by omega⟩ ⟨l.val / 64, by omega⟩ j)

/-- After the run the result array is `out`. -/
theorem final (c : Dev nD) : (dats m 0 c).arrAt 5 cfg0.N = out m c := by
  refine (dats m 0 c).arrAt_eq_of_covers 5 _ (by decide +kernel) fun t hf y => ?_
  blk_simp
  rw [after0_5]
  idx_vars y
  obtain rfl : y0 = 0 := Subsingleton.elim _ _
  refine (point m c t y1 y2).trans ?_
  have he : ((View.whole main_v26).slice (win0_5.rect t)).emb (ix3 0 y1 y2) = (ix3 (grid0.coords t 0) (row t y1) y2 : S4x4096x256.Idx) := by
    blk_ext [row, idx t]
  exact (congrArg (out m c) he).symm

end Cert.AttentionIdeal.Block
-- ==== Proof.AttnReference.lean ====
/- The attention reference's result, entry by entry. -/
module

public import proofs.«01_k».proof.Proof.Gen.AttentionReferenceIdeal.Run
public import proofs.«01_k».proof.Proof.AttnRow
public import Idealize.ShloMosaic.Lib.Pointwise

@[expose] public section

set_option maxRecDepth 16384

noncomputable section

namespace Cert.AttentionReferenceIdeal.Value

open Cert.AttnRow Cert.AttentionReferenceIdeal Cert.AttentionReferenceIdeal.Gen Idealize.ShloMosaic Idealize.ShloMosaic.TcCoe Idealize.SL.Sem

/-- The latent heads followed by the context heads. -/
def cat (a : FVec Ideal S4x4096x4x64 .f32) (a' : FVec Ideal S4x256x4x64 .f32) : FVec Ideal S4x4352x4x64 .f32 :=
  concatenate S4x4352x4x64 1 [⟨S4x4096x4x64, a⟩, ⟨S4x256x4x64, a'⟩] concatenates_S4x4096x4x64_S4x256x4x64_S4x4352x4x64_d1

/-- The scaled scores. -/
def scores (a0 : FVec Ideal S4x4096x4x64 .f32) (a1 : FVec Ideal S4x4096x4x32 .f32) (a2 : FVec Ideal S4x4096x4x64 .f32)
    (a3 : FVec Ideal S4x4096x32 .f32) (a5 : FVec Ideal S4x256x4x64 .f32) (a6 : FVec Ideal S4x256x32 .f32) : FVec Ideal S4x4x4096x4352 .f32 :=
  Host.divf (addf (Host.dotGeneral dot_S4x4096x4x64_S4x4352x4x64_S4x4x4096x4352_3_3_1_1_02_02 none a0 (cat a2 a5))
    (transpose S4x4x4096x4352 [0, 3, 2, 1] (Host.dotGeneral dot_S4x4352x32_S4x4096x4x32_S4x4352x4096x4_2_3_1_12_0_0 none
      (concatenate S4x4352x32 1 [⟨S4x4096x32, a3⟩, ⟨S4x256x32, a6⟩] concatenates_S4x4096x32_S4x256x32_S4x4352x32_d1) a1) transposes_S4x4352x4096x4_S4x4x4096x4352_0_3_2_1))
    (broadcastInDim S4x4x4096x4352 ![] bcast_S_S4x4x4096x4352 (Host.sqrt (constant S_ .f32 0x42C00000#32)))

/-- The exponentials below each query's largest score. -/
def expo (s : FVec Ideal S4x4x4096x4352 .f32) : FVec Ideal S4x4x4096x4352 .f32 :=
  Host.exp (subf s (broadcastInDim S4x4x4096x4352 ![0, 1, 2, 3] bcast_S4x4x4096x1_S4x4x4096x4352_0_1_2_3
    (broadcastInDim S4x4x4096x1 ![0, 1, 2] bcast_S4x4x4096_S4x4x4096x1_0_1_2
      (maximumf (broadcastInDim S4x4x4096 ![] bcast_S_S4x4x4096 (constant S_ .f32 0xFF800000#32))
        (Host.reduce FloatOps.maximumf s (constant S_ .f32 0xFF800000#32) reducesTo_S4x4x4096x4352_S4x4x4096_d3 h_S_)))))

/-- The values weighted by the exponentials over their sum, laid out as the result. -/
def mixed (v : FVec Ideal S4x4352x4x64 .f32) (e : FVec Ideal S4x4x4096x4352 .f32) : FVec Ideal S4x4096x256 .bf16 :=
  truncf .bf16 (shapeCast _ (transpose S4x4096x4x64 [0, 3, 1, 2] (Host.dotGeneral dot_S4x4352x4x64_S4x4x4096x4352_S4x4x64x4096_1_3_3_2_02_01 none
    v (Host.divf e (broadcastInDim S4x4x4096x4352 ![0, 1, 2, 3] bcast_S4x4x4096x1_S4x4x4096x4352_0_1_2_3
      (broadcastInDim S4x4x4096x1 ![0, 1, 2] bcast_S4x4x4096_S4x4x4096x1_0_1_2
        (Host.reduceAdd e (constant S_ .f32 0x00000000#32) reducesTo_S4x4x4096x4352_S4x4x4096_d3 h_S_)))))
    transposes_S4x4x64x4096_S4x4096x4x64_0_3_1_2) shapeCasts_S4x4096x4x64_S4x4096x256) bitsLt_bf16_f32

theorem cat_at (a : FVec Ideal S4x4096x4x64 .f32) (a' : FVec Ideal S4x256x4x64 .f32) (b : Fin 4) (x : Fin 4352) (h : Fin 4) (d : Fin 64) :
    cat a a' (ix4 b x h d) = join (fun x => a (ix4 b x h d)) (fun x => a' (ix4 b x h d)) x := by
  pointwise [cat]
  rfl

theorem scores_at (a0 : FVec Ideal S4x4096x4x64 .f32) (a1 : FVec Ideal S4x4096x4x32 .f32) (a2 : FVec Ideal S4x4096x4x64 .f32)
    (a3 : FVec Ideal S4x4096x32 .f32) (a5 : FVec Ideal S4x256x4x64 .f32) (a6 : FVec Ideal S4x256x32 .f32)
    (b h : Fin 4) (p : Fin 4096) (x : Fin 4352) :
    scores a0 a1 a2 a3 a5 a6 (ix4 b h p x) = Ideal.div
      (join (fun x => ∑ j, a0 (ix4 b p h j) * a2 (ix4 b x h j) + ∑ j, a3 (ix3 b x j) * a1 (ix4 b p h j))
        (fun x => ∑ j, a0 (ix4 b p h j) * a5 (ix4 b x h j) + ∑ j, a6 (ix3 b x j) * a1 (ix4 b p h j)) x)
      (Ideal.sqrt (Ideal.ofBits .f32 0x42C00000#32)) := by
  pointwise [scores, cat_at]
  unfold join
  split_ifs <;> rfl

theorem red_at (s : FVec Ideal S4x4x4096x4352 .f32) (b h : Fin 4) (p : Fin 4096) :
    Host.reduce FloatOps.maximumf s (constant S_ .f32 0xFF800000#32) reducesTo_S4x4x4096x4352_S4x4x4096_d3 h_S_ (ix3 b h p)
      = Finset.fold max (Ideal.ofBits .f32 0xFF800000#32) (fun y : Fin 4352 => s (ix4 b h p y)) Finset.univ := by
  pointwise

theorem sub_at (s : FVec Ideal S4x4x4096x4352 .f32) (t : FVec Ideal S4x4x4096 .f32) (b h : Fin 4) (p : Fin 4096) (x : Fin 4352) :
    Host.exp (subf s (broadcastInDim S4x4x4096x4352 ![0, 1, 2, 3] bcast_S4x4x4096x1_S4x4x4096x4352_0_1_2_3
    (broadcastInDim S4x4x4096x1 ![0, 1, 2] bcast_S4x4x4096_S4x4x4096x1_0_1_2
      (maximumf (broadcastInDim S4x4x4096 ![] bcast_S_S4x4x4096 (constant S_ .f32 0xFF800000#32)) t)))) (ix4 b h p x)
      = Ideal.exp (s (ix4 b h p x) - Max.max (Ideal.ofBits .f32 0xFF800000#32) (t (ix3 b h p))) := by
  pointwise

theorem expo_at (s : FVec Ideal S4x4x4096x4352 .f32) (b h : Fin 4) (p : Fin 4096) (x : Fin 4352) :
    expo s (ix4 b h p x) = Ideal.exp (s (ix4 b h p x) - Max.max (Ideal.ofBits .f32 0xFF800000#32) (top fun y => s (ix4 b h p y))) := by
  unfold expo top
  rw [sub_at, red_at]

theorem mixed_at (v : FVec Ideal S4x4352x4x64 .f32) (e : FVec Ideal S4x4x4096x4352 .f32) (b : Fin 4) (p : Fin 4096) (l : Fin 256) :
    mixed v e (ix3 b p l) = ∑ x, v (ix4 b x ⟨l.val / 64, by omega⟩ ⟨l.val % 64, by omega⟩)
      * Ideal.div (e (ix4 b ⟨l.val / 64, by omega⟩ p x)) (∑ y, e (ix4 b ⟨l.val / 64, by omega⟩ p y)) := by
  pointwise [mixed]

/-- The reference's result is the mixed values. -/
theorem form (m : (ℓ : Loc nD τ sig) → Buf (Elt Ideal) ℓ) (c : Dev nD)
    (a0 : FVec Ideal S4x4096x4x64 .f32) (a1 : FVec Ideal S4x4096x4x32 .f32) (a2 : FVec Ideal S4x4096x4x64 .f32)
    (a3 : FVec Ideal S4x4096x32 .f32) (a4 : FVec Ideal S4x4096x4x64 .f32) (a5 : FVec Ideal S4x256x4x64 .f32)
    (a6 : FVec Ideal S4x256x32 .f32) (a7 : FVec Ideal S4x256x4x64 .f32)
    (e0 : m ((c.tc : Thread nD τ).loc main_arg0) = a0) (e1 : m ((c.tc : Thread nD τ).loc main_arg1) = a1)
    (e2 : m ((c.tc : Thread nD τ).loc main_arg2) = a2) (e3 : m ((c.tc : Thread nD τ).loc main_arg3) = a3)
    (e4 : m ((c.tc : Thread nD τ).loc main_arg4) = a4) (e5 : m ((c.tc : Thread nD τ).loc main_arg5) = a5)
    (e6 : m ((c.tc : Thread nD τ).loc main_arg6) = a6) (e7 : m ((c.tc : Thread nD τ).loc main_arg7) = a7) :
    (res_main_v24 m c : FVec Ideal S4x4096x256 .bf16) = mixed (cat a4 a7) (expo (scores a0 a1 a2 a3 a5 a6)) := by
  unfold res_main_v24
  rw [e0, e1, e2, e3, e4, e5, e6, e7]
  rfl

/-- The reference's result at an entry: the attention of the entry's query and head, below some real number. -/
theorem entry_at (m : (ℓ : Loc nD τ sig) → Buf (Elt Ideal) ℓ) (c : Dev nD)
    (a0 : FVec Ideal S4x4096x4x64 .f32) (a1 : FVec Ideal S4x4096x4x32 .f32) (a2 : FVec Ideal S4x4096x4x64 .f32)
    (a3 : FVec Ideal S4x4096x32 .f32) (a4 : FVec Ideal S4x4096x4x64 .f32) (a5 : FVec Ideal S4x256x4x64 .f32)
    (a6 : FVec Ideal S4x256x32 .f32) (a7 : FVec Ideal S4x256x4x64 .f32)
    (e0 : m ((c.tc : Thread nD τ).loc main_arg0) = a0) (e1 : m ((c.tc : Thread nD τ).loc main_arg1) = a1)
    (e2 : m ((c.tc : Thread nD τ).loc main_arg2) = a2) (e3 : m ((c.tc : Thread nD τ).loc main_arg3) = a3)
    (e4 : m ((c.tc : Thread nD τ).loc main_arg4) = a4) (e5 : m ((c.tc : Thread nD τ).loc main_arg5) = a5)
    (e6 : m ((c.tc : Thread nD τ).loc main_arg6) = a6) (e7 : m ((c.tc : Thread nD τ).loc main_arg7) = a7)
    (h0 : ∀ i, IsReal (a0 i)) (h1 : ∀ i, IsReal (a1 i)) (h2 : ∀ i, IsReal (a2 i)) (h3 : ∀ i, IsReal (a3 i))
    (h5 : ∀ i, IsReal (a5 i)) (h6 : ∀ i, IsReal (a6 i)) (b : Fin 4) (p : Fin 4096) (l : Fin 256) :
    ∃ M : EReal, IsReal M ∧ (res_main_v24 m c : FVec Ideal S4x4096x256 .bf16) (ix3 b p l)
      = soft (Real.sqrt 96 : EReal) M
          (fun x => ∑ j, a0 (ix4 b p ⟨l.val / 64, by omega⟩ j) * a2 (ix4 b x ⟨l.val / 64, by omega⟩ j)
            + ∑ j, a3 (ix3 b x j) * a1 (ix4 b p ⟨l.val / 64, by omega⟩ j))
          (fun x => ∑ j, a0 (ix4 b p ⟨l.val / 64, by omega⟩ j) * a5 (ix4 b x ⟨l.val / 64, by omega⟩ j)
            + ∑ j, a6 (ix3 b x j) * a1 (ix4 b p ⟨l.val / 64, by omega⟩ j))
          (fun x => a4 (ix4 b x ⟨l.val / 64, by omega⟩ ⟨l.val % 64, by omega⟩))
          (fun x => a7 (ix4 b x ⟨l.val / 64, by omega⟩ ⟨l.val % 64, by omega⟩)) := by
  have hK : Ideal.sqrt (Ideal.ofBits .f32 0x42C00000#32) = (Real.sqrt 96 : EReal) := by
    rw [ninety_six, Ideal.sqrt_coe, if_neg (by norm_num)]
  have hK0 : Real.sqrt 96 ≠ 0 := (Real.sqrt_pos.2 (by norm_num)).ne'
  have hf := congrFun (form m c a0 a1 a2 a3 a4 a5 a6 a7 e0 e1 e2 e3 e4 e5 e6 e7) (ix3 b p l)
  rw [mixed_at] at hf
  simp only [cat_at, expo_at, scores_at, hK] at hf
  rw [soft_join] at hf
  refine ⟨_, ?_, hf⟩
  refine IsReal.max' (top_real (by norm_num) fun x => IsReal.div (join_real (fun x => ?_) (fun x => ?_) x) hK0)
  · exact (IsReal.sum fun j => (h0 _).mul (h2 _)).add (IsReal.sum fun j => (h3 _).mul (h1 _))
  · exact (IsReal.sum fun j => (h0 _).mul (h5 _)).add (IsReal.sum fun j => (h6 _).mul (h1 _))

end Cert.AttentionReferenceIdeal.Value
-- ==== Proof.AttnPre.lean ====
/- What the precondition says: every query and key is a real number. -/
module

public import proofs.«01_k».proof.Proof.Gen.Pre_finite_qk
public import proofs.«01_k».proof.Proof.AttnRow
public import Idealize.ShloMosaic.Lib.ReduceAll
public import Idealize.ShloMosaic.Lib.Pointwise

@[expose] public section

set_option maxRecDepth 16384

noncomputable section

namespace Cert.AttnPre

open Idealize.ShloMosaic Cert.AttnRow
open Cert.Pre_finite_qk Cert.Pre_finite_qk.Facts

/-- The pattern of infinity. -/
theorem pinf : Ideal.ofBits .f32 0x7F800000#32 = ⊤ := by
  simp [Ideal.ofBits, Ideal.ieee]

/-- A number whose magnitude is below infinity is real. -/
theorem real_of_lt (x : EReal) (h : Max.max x (-x) < ⊤) : IsReal x := by
  have ht : x ≠ ⊤ := fun e => by rw [e] at h; simp at h
  have hb : x ≠ ⊥ := fun e => by rw [e] at h; simp at h
  exact ⟨x.toReal, (EReal.coe_toReal ht hb).symm⟩

/-- An array all of whose entries compare below infinity in magnitude has real entries. -/
theorem real_of_all [Cert.Pre_finite_qk.Facts] {s : Shape} {axes : List (Fin s.rank)} (x : FVec Ideal s .f32)
    (hb : S_.BroadcastsInDim s (![] : Fin 0 → Fin s.rank)) (hr : s.ReducesTo axes S_) (j : S_.Idx)
    (e : Host.reduce IntOp.andi (cmpf .olt (Host.absf x) (broadcastInDim s ![] hb (constant (F := Ideal) S_ .f32 0x7F800000#32)))
      (constantI S_ 1 1#1) hr h_S_ j = 1#1) (i : s.Idx) : IsReal (x i) := by
  haveI : Subsingleton S_.Idx := ⟨fun a b => funext fun k => k.elim0⟩
  have h := Host.reduce_andi_all _ _ _ _ j e i
  have h' : Ideal.cmp .olt (Max.max (x i) (-(x i))) (Ideal.ofBits .f32 0x7F800000#32) = 1#1 := h
  rw [pinf] at h'
  by_contra hn
  have hx : ¬ Max.max (x i) (-(x i)) < ⊤ := fun q => hn (real_of_lt _ q)
  simp [Ideal.cmp, hx] at h'

/-- The precondition, entry by entry. -/
theorem decode [Cert.Pre_finite_qk.Facts] (a0 : FVec Ideal S4x4096x4x64 .f32) (a1 : FVec Ideal S4x4096x4x32 .f32)
    (a2 : FVec Ideal S4x4096x4x64 .f32) (a3 : FVec Ideal S4x4096x32 .f32) (a4 : FVec Ideal S4x4096x4x64 .f32)
    (a5 : FVec Ideal S4x256x4x64 .f32) (a6 : FVec Ideal S4x256x32 .f32) (a7 : FVec Ideal S4x256x4x64 .f32)
    (h : Cert.Pre_finite_qk.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a5 i))
      ∧ ∀ i, IsReal (a6 i) := by
  let j : S_.Idx := fun k => k.elim0
  have e := congrFun h j
  unfold Cert.Pre_finite_qk.fn Cert.Pre_finite_qk.fn_part1 at e
  have sp : ∀ A B : IVec S_ 1, andi A B j = 1#1 → A j = 1#1 ∧ B j = 1#1 := fun A B h => IntOp.andi_eq_one.1 h
  obtain ⟨e, e6⟩ := sp _ _ e
  obtain ⟨e, e5⟩ := sp _ _ e
  obtain ⟨e, e3⟩ := sp _ _ e
  obtain ⟨e, e2⟩ := sp _ _ e
  obtain ⟨e0, e1⟩ := sp _ _ e
  exact ⟨real_of_all a0 bcast_S_S4x4096x4x64 reducesTo_S4x4096x4x64_S_d0_1_2_3 j e0,
    real_of_all a1 bcast_S_S4x4096x4x32 reducesTo_S4x4096x4x32_S_d0_1_2_3 j e1,
    real_of_all a2 bcast_S_S4x4096x4x64 reducesTo_S4x4096x4x64_S_d0_1_2_3 j e2,
    real_of_all a3 bcast_S_S4x4096x32 reducesTo_S4x4096x32_S_d0_1_2 j e3,
    real_of_all a5 bcast_S_S4x256x4x64 reducesTo_S4x256x4x64_S_d0_1_2_3 j e5,
    real_of_all a6 bcast_S_S4x256x32 reducesTo_S4x256x32_S_d0_1_2 j e6⟩

end Cert.AttnPre
-- ==== Proof.AttnClaim.lean ====
/- The claims about the attention: the reference ends with quiet semaphores, and where every query and key is a real
   number the kernel and the reference end with equal results. -/
module

public import proofs.«01_k».proof.Defs
public import proofs.«01_k».proof.Proof.AttnValue
public import proofs.«01_k».proof.Proof.AttnReference
public import proofs.«01_k».proof.Proof.AttnPre

@[expose] public section

set_option maxRecDepth 16384

noncomputable section

namespace Cert.AttnClaim

open Idealize.ShloMosaic Idealize.ShloMosaic.TcCoe Idealize.SL.Sem
open Cert.AttnRow Cert.AttentionIdeal.Block

/-- The score of packed lanes is the sum of the unrotated and the rotary score. -/
theorem score_packed (qn kn : Fin 64 → EReal) (qr kr : Fin 32 → EReal) :
    score (packed qn qr) (packed kn kr) = ∑ j, qn j * kn j + ∑ j, kr j * qr j := by
  have h64 : ∀ f : Fin 128 → EReal, ∑ j, f j = ∑ j : Fin 64, f ⟨j.val, by omega⟩ + ∑ j : Fin 64, f ⟨64 + j.val, by omega⟩ :=
    fun f => Fin.sum_univ_add (a := 64) (b := 64) f
  have h32 : ∀ f : Fin 64 → EReal, ∑ j, f j = ∑ j : Fin 32, f ⟨j.val, by omega⟩ + ∑ j : Fin 32, f ⟨32 + j.val, by omega⟩ :=
    fun f => Fin.sum_univ_add (a := 32) (b := 32) f
  unfold score
  rw [h64, h32 fun j : Fin 64 => packed qn qr ⟨64 + j.val, by omega⟩ * packed kn kr ⟨64 + j.val, by omega⟩]
  have e1 : ∀ (n : Fin 64 → EReal) (r : Fin 32 → EReal) (j : Fin 64), packed n r ⟨j.val, by omega⟩ = n j := fun n r j => by
    unfold packed; rw [dif_pos j.isLt]
  have e2 : ∀ (n : Fin 64 → EReal) (r : Fin 32 → EReal) (j : Fin 32), packed n r ⟨64 + j.val, by omega⟩ = r j := fun n r j => by
    unfold packed
    rw [dif_neg (by simp), dif_pos (by simp)]
    exact congrArg r (Fin.ext (by simp))
  have e3 : ∀ (n : Fin 64 → EReal) (r : Fin 32 → EReal) (j : Fin 32), packed n r ⟨64 + (32 + j.val), by omega⟩ = 0 := fun n r j => by
    unfold packed
    rw [dif_neg (by simp), dif_neg (by simp)]
  simp only [e1, e2, e3, mul_zero, Finset.sum_const_zero, add_zero]
  exact congrArg _ (Finset.sum_congr rfl fun j _ => mul_comm _ _)

theorem packedV_one (n : Fin 64 → EReal) : packedV n 64 = 1 := by
  unfold packedV
  rw [dif_neg (by decide), if_pos (by decide)]

theorem packedV_lane (n : Fin 64 → EReal) (d : Fin 64) : packedV n ⟨d.val, by omega⟩ = n d := by
  unfold packedV; rw [dif_pos d.isLt]

/-- The kernel's constant is the scale over the logarithm of two. -/
theorem cst_eq : cst = ((1 / Real.sqrt 96 * (Real.log 2)⁻¹ : ℝ) : EReal) := by
  rw [one_div]
  exact IdealRules.named_const.ideal_named_scalar _ _ _ _ rfl

/-- The head function of packed rows is the reference's attention. -/
theorem head_packed (qn : Fin 64 → EReal) (qr : Fin 32 → EReal) (kn : Fin 4096 → Fin 64 → EReal) (kr : Fin 4096 → Fin 32 → EReal)
    (kcn : Fin 256 → Fin 64 → EReal) (kcr : Fin 256 → Fin 32 → EReal) (v : Fin 4096 → Fin 64 → EReal) (vc : Fin 256 → Fin 64 → EReal)
    (hqn : ∀ j, IsReal (qn j)) (hqr : ∀ j, IsReal (qr j)) (hkn : ∀ x j, IsReal (kn x j)) (hkr : ∀ x j, IsReal (kr x j))
    (hkcn : ∀ x j, IsReal (kcn x j)) (hkcr : ∀ x j, IsReal (kcr x j)) (d : Fin 64) {M : EReal} (hM : IsReal M) :
    head cst (packed qn qr) (fun x => packed (kcn x) (kcr x)) (fun x => packedV (vc x))
      (fun x : Fin 2048 => packed (kn ⟨x.val, by omega⟩) (kr ⟨x.val, by omega⟩)) (fun x : Fin 2048 => packedV (v ⟨x.val, by omega⟩))
      (fun x : Fin 2048 => packed (kn ⟨2048 + x.val, by omega⟩) (kr ⟨2048 + x.val, by omega⟩))
      (fun x : Fin 2048 => packedV (v ⟨2048 + x.val, by omega⟩)) ⟨d.val, by omega⟩
      = soft (Real.sqrt 96 : EReal) M (fun x => ∑ j, qn j * kn x j + ∑ j, kr x j * qr j)
          (fun x => ∑ j, qn j * kcn x j + ∑ j, kcr x j * qr j) (fun x => v x d) (fun x => vc x d) := by
  unfold head
  simp only [score_packed, packedV_one, packedV_lane]
  rw [cst_eq]
  exact acc_eq_soft (Real.sqrt 96) (Real.sqrt_pos.2 (by norm_num)).ne' hM (fun x => ∑ j, qn j * kn x j + ∑ j, kr x j * qr j)
    (fun x => ∑ j, qn j * kcn x j + ∑ j, kcr x j * qr j)
    (fun x => (IsReal.sum fun j => (hqn j).mul (hkn x j)).add (IsReal.sum fun j => (hkr x j).mul (hqr j)))
    (fun x => (IsReal.sum fun j => (hqn j).mul (hkcn x j)).add (IsReal.sum fun j => (hkcr x j).mul (hqr j)))
    (fun x => v x d) (fun x => vc x d)

/-- The reference of the attention runs, leaves its arguments and ends with quiet semaphores. -/
theorem quiescent : Cert.quiescent_AttentionReferenceIdeal := by
  intro m g _
  refine (θ_run _ _ _).mono (fun r h => ⟨fun c => (h c).2, ?_⟩) (Cert.AttentionReferenceIdeal.Value.run m g)
  funext x
  exact ((by decide : ∀ s : SemLoc Cert.AttentionReferenceIdeal.sig, False) x.2).elim

/-- The kernel's result array is the reference's, where the argument arrays agree and the queries and keys are real. -/
theorem equal (m : (ℓ : Loc Cert.AttentionIdeal.nD Cert.AttentionIdeal.τ Cert.AttentionIdeal.sig) → Buf (Elt Ideal) ℓ)
    (c : Dev Cert.AttentionIdeal.nD)
    (m' : (ℓ : Loc Cert.AttentionReferenceIdeal.nD Cert.AttentionReferenceIdeal.τ Cert.AttentionReferenceIdeal.sig) → Buf (Elt Ideal) ℓ)
    (c' : Dev Cert.AttentionReferenceIdeal.nD)
    (a0 : FVec Ideal Cert.AttentionIdeal.S4x4096x4x64 .f32) (a1 : FVec Ideal Cert.AttentionIdeal.S4x4096x4x32 .f32)
    (a2 : FVec Ideal Cert.AttentionIdeal.S4x4096x4x64 .f32) (a3 : FVec Ideal Cert.AttentionIdeal.S4x4096x32 .f32)
    (a4 : FVec Ideal Cert.AttentionIdeal.S4x4096x4x64 .f32) (a5 : FVec Ideal Cert.AttentionIdeal.S4x256x4x64 .f32)
    (a6 : FVec Ideal Cert.AttentionIdeal.S4x256x32 .f32) (a7 : FVec Ideal Cert.AttentionIdeal.S4x256x4x64 .f32)
    (k0 : m ((c.tc : Thread Cert.AttentionIdeal.nD Cert.AttentionIdeal.τ).loc Cert.AttentionIdeal.main_arg0) = a0)
    (k1 : m ((c.tc : Thread Cert.AttentionIdeal.nD Cert.AttentionIdeal.τ).loc Cert.AttentionIdeal.main_arg1) = a1)
    (k2 : m ((c.tc : Thread Cert.AttentionIdeal.nD Cert.AttentionIdeal.τ).loc Cert.AttentionIdeal.main_arg2) = a2)
    (k3 : m ((c.tc : Thread Cert.AttentionIdeal.nD Cert.AttentionIdeal.τ).loc Cert.AttentionIdeal.main_arg3) = a3)
    (k4 : m ((c.tc : Thread Cert.AttentionIdeal.nD Cert.AttentionIdeal.τ).loc Cert.AttentionIdeal.main_arg4) = a4)
    (k5 : m ((c.tc : Thread Cert.AttentionIdeal.nD Cert.AttentionIdeal.τ).loc Cert.AttentionIdeal.main_arg5) = a5)
    (k6 : m ((c.tc : Thread Cert.AttentionIdeal.nD Cert.AttentionIdeal.τ).loc Cert.AttentionIdeal.main_arg6) = a6)
    (k7 : m ((c.tc : Thread Cert.AttentionIdeal.nD Cert.AttentionIdeal.τ).loc Cert.AttentionIdeal.main_arg7) = a7)
    (e0 : m' ((c'.tc : Thread Cert.AttentionReferenceIdeal.nD Cert.AttentionReferenceIdeal.τ).loc Cert.AttentionReferenceIdeal.main_arg0) = a0)
    (e1 : m' ((c'.tc : Thread Cert.AttentionReferenceIdeal.nD Cert.AttentionReferenceIdeal.τ).loc Cert.AttentionReferenceIdeal.main_arg1) = a1)
    (e2 : m' ((c'.tc : Thread Cert.AttentionReferenceIdeal.nD Cert.AttentionReferenceIdeal.τ).loc Cert.AttentionReferenceIdeal.main_arg2) = a2)
    (e3 : m' ((c'.tc : Thread Cert.AttentionReferenceIdeal.nD Cert.AttentionReferenceIdeal.τ).loc Cert.AttentionReferenceIdeal.main_arg3) = a3)
    (e4 : m' ((c'.tc : Thread Cert.AttentionReferenceIdeal.nD Cert.AttentionReferenceIdeal.τ).loc Cert.AttentionReferenceIdeal.main_arg4) = a4)
    (e5 : m' ((c'.tc : Thread Cert.AttentionReferenceIdeal.nD Cert.AttentionReferenceIdeal.τ).loc Cert.AttentionReferenceIdeal.main_arg5) = a5)
    (e6 : m' ((c'.tc : Thread Cert.AttentionReferenceIdeal.nD Cert.AttentionReferenceIdeal.τ).loc Cert.AttentionReferenceIdeal.main_arg6) = a6)
    (e7 : m' ((c'.tc : Thread Cert.AttentionReferenceIdeal.nD Cert.AttentionReferenceIdeal.τ).loc Cert.AttentionReferenceIdeal.main_arg7) = a7)
    (h0 : ∀ i, IsReal (a0 i)) (h1 : ∀ i, IsReal (a1 i)) (h2 : ∀ i, IsReal (a2 i)) (h3 : ∀ i, IsReal (a3 i))
    (h5 : ∀ i, IsReal (a5 i)) (h6 : ∀ i, IsReal (a6 i)) :
    (Cert.AttentionReferenceIdeal.Value.res_main_v24 m' c' : FVec Ideal Cert.AttentionReferenceIdeal.S4x4096x256 .bf16) = out m c := by
  funext i
  idx_vars i
  obtain ⟨M, hM, e⟩ := Cert.AttentionReferenceIdeal.Value.entry_at m' c' a0 a1 a2 a3 a4 a5 a6 a7 e0 e1 e2 e3 e4 e5 e6 e7 h0 h1 h2 h3 h5 h6 i0 i1 i2
  refine e.trans (Eq.symm ?_)
  show entry m c i0 i1 i2 = _
  unfold entry qRow kcRow vcRow kRow vRow
  rw [k0, k1, k2, k3, k4, k5, k6, k7]
  exact head_packed (fun x => a0 (ix4 i0 i1 ⟨i2.val / 64, by omega⟩ x)) (fun x => a1 (ix4 i0 i1 ⟨i2.val / 64, by omega⟩ x))
    (fun p x => a2 (ix4 i0 p ⟨i2.val / 64, by omega⟩ x)) (fun p x => a3 (ix3 i0 p x))
    (fun p x => a5 (ix4 i0 p ⟨i2.val / 64, by omega⟩ x)) (fun p x => a6 (ix3 i0 p x))
    (fun p x => a4 (ix4 i0 p ⟨i2.val / 64, by omega⟩ x)) (fun p x => a7 (ix4 i0 p ⟨i2.val / 64, by omega⟩ x))
    (fun _ => h0 _) (fun _ => h1 _) (fun _ _ => h2 _) (fun _ _ => h3 _) (fun _ _ => h5 _) (fun _ _ => h6 _) ⟨i2.val % 64, by omega⟩ hM

set_option maxHeartbeats 1000000 in
/-- The kernel and its reference, from equal arguments with real queries and keys, end with equal results. -/
theorem algebraic [Cert.Pre_finite_qk.Facts] : Cert.algebraic_AttentionIdeal_AttentionReferenceIdeal_pre_finite_qk := by
  pair_intro
  · run_from Cert.AttentionIdeal.Gen.run_main m g
  · run_from Cert.AttentionReferenceIdeal.Value.run m' g'
    obtain ⟨e0, e1, e2, e3, e4, e5, e6, e7⟩ := hagree c
    obtain ⟨h0, h1, h2, h3, h5, h6⟩ := Cert.AttnPre.decode _ _ _ _ _ _ _ _ (hpre c)
    exact (equal m c m' c _ _ _ _ _ _ _ _ rfl rfl rfl rfl rfl rfl rfl rfl e0 e1 e2 e3 e4 e5 e6 e7 h0 h1 h2 h3 h5 h6).trans
      (final m c).symm

end Cert.AttnClaim
-- ==== Proof.MlpRow.lean ====
/- The output projection and the MLP of one row, in extended reals: the function both the kernel and the
   reference are compared with. -/
module

public import Idealize.ShloMosaic.Lib.Pointwise

@[expose] public section

noncomputable section

namespace Cert.MlpRow

open Idealize.ShloMosaic

/-- The factor of a root-mean-square norm: the reciprocal root of the mean square of a row of 1024 values plus 1e-6. -/
def inv (v : Fin 1024 → EReal) : EReal :=
  Ideal.rsqrt (Ideal.div (∑ k, v k * v k) (Ideal.ofBits .f32 0x44800000#32) + Ideal.ofBits .f32 0x358637BD#32)

/-- The mixers' outputs of a row, four stretches of 256 features side by side. -/
def feats (p0 p1 p2 p3 : Fin 256 → EReal) (k : Fin 1024) : EReal :=
  if h : (k : ℕ) < 256 then p0 ⟨k, h⟩
  else if h : (k : ℕ) - 256 < 256 then p1 ⟨k - 256, h⟩
  else if h : (k : ℕ) - 256 - 256 < 256 then p2 ⟨k - 256 - 256, h⟩
  else p3 ⟨k - 256 - 256 - 256, by omega⟩

/-- The output projection of a row: its features against the weight. -/
def proj (p : Fin 1024 → EReal) (w : Fin 1024 → Fin 1024 → EReal) (l : Fin 1024) : EReal := ∑ k, p k * w k l

/-- The residual stream after the first norm: `x` plus the normed `y` times the weight-and-gate `g`. -/
def mix (x y g : Fin 1024 → EReal) (l : Fin 1024) : EReal := x l + y l * inv y * g l

/-- The modulated norm of a row: normed, times `g`, plus the shift `sh`. -/
def modn (x g sh : Fin 1024 → EReal) (l : Fin 1024) : EReal := x l * inv x * g l + sh l

/-- A hidden unit: the squared positive part of the row against one column. -/
def hid (h : Fin 1024 → EReal) (w1 : Fin 1024 → EReal) : EReal :=
  max (∑ k, h k * w1 k) 0 * max (∑ k, h k * w1 k) 0

/-- The MLP of a row: 4096 hidden units against the second weight. -/
def mlp (h : Fin 1024 → EReal) (w1 : Fin 1024 → Fin 4096 → EReal) (w2 : Fin 4096 → Fin 1024 → EReal) (l : Fin 1024) : EReal :=
  ∑ q : Fin 4096, hid h (fun k => w1 k q) * w2 q l

/-- The whole row: projection, first residual, modulated norm, MLP, second residual. -/
def row (x p : Fin 1024 → EReal) (w : Fin 1024 → Fin 1024 → EReal)
    (g1 g2 sh g3 : Fin 1024 → EReal) (w1 : Fin 1024 → Fin 4096 → EReal) (w2 : Fin 4096 → Fin 1024 → EReal) : Fin 1024 → EReal :=
  mix (mix x (proj p w) g1) (mlp (modn (mix x (proj p w) g1) g2 sh) w1 w2) g3

/-- The layer's tail at one position: the row function with the gates, the shift and the scale read from the
    position's 6144 modulation values (gate 1 from 2048, shift 2 from 3072, scale 2 from 4096, gate 2 from 5120). -/
def tail (x p : Fin 1024 → EReal) (md : Fin 6144 → EReal) (gmix gpre gpost : Fin 1024 → EReal)
    (w : Fin 1024 → Fin 1024 → EReal) (w1 : Fin 1024 → Fin 4096 → EReal) (w2 : Fin 4096 → Fin 1024 → EReal) : Fin 1024 → EReal :=
  row x p w (fun l => gmix l * md ⟨2048 + l, by omega⟩) (fun l => gpre l * (1 + md ⟨4096 + l, by omega⟩))
    (fun l => md ⟨3072 + l, by omega⟩) (fun l => gpost l * md ⟨5120 + l, by omega⟩) w1 w2

/-- The MLP of a row summed in four stretches of 1024 hidden units, one after another onto zero. -/
theorem mlp_chunks (h : Fin 1024 → EReal) (w1 : Fin 1024 → Fin 4096 → EReal) (w2 : Fin 4096 → Fin 1024 → EReal) (l : Fin 1024) :
    (((0 + ∑ q : Fin 1024, hid h (fun k => w1 k ⟨q, by omega⟩) * w2 ⟨q, by omega⟩ l)
        + ∑ q : Fin 1024, hid h (fun k => w1 k ⟨1024 + q, by omega⟩) * w2 ⟨1024 + q, by omega⟩ l)
        + ∑ q : Fin 1024, hid h (fun k => w1 k ⟨2048 + q, by omega⟩) * w2 ⟨2048 + q, by omega⟩ l)
        + ∑ q : Fin 1024, hid h (fun k => w1 k ⟨3072 + q, by omega⟩) * w2 ⟨3072 + q, by omega⟩ l
      = mlp h w1 w2 l := by
  rw [zero_add, mlp, Fin.sum_univ_tiles 4 1024 rfl]
  simp only [Fin.sum_univ_four]
  refine congrArg₂ (· + ·) (congrArg₂ (· + ·) (congrArg₂ (· + ·) ?_ ?_) ?_) ?_ <;>
    refine Finset.sum_congr rfl fun q _ => ?_ <;> simp

end Cert.MlpRow
-- ==== Proof.MlpBlock.lean ====
/- The body of the output-projection-and-MLP kernel at one element of its block: the row function of the block's
   row. -/
module

public import proofs.«01_k».proof.Proof.Gen.OutMlpIdeal.Skeleton
public import proofs.«01_k».proof.Proof.MlpRow
public import Idealize.ShloMosaic.Lib.Pointwise

@[expose] public section

set_option maxRecDepth 16384

noncomputable section

namespace Cert.OutMlpIdeal.Block

open Idealize.ShloMosaic Idealize.ShloMosaic.TcCoe Idealize.SL.Sem
open Cert.OutMlpIdeal Cert.OutMlpIdeal.Gen
open Cert.MlpRow

variable (v3 v9 v13 : FVec Ideal S1x1024 .f32) (v17 : FVec Ideal S1024x1024 .f32)
  (v19 v21 : FVec Ideal S1024x256 .bf16) (v22 v24 : FVec Ideal S1x1024x256 .bf16) (v27 : FVec Ideal S1x1024x1024 .bf16)

/-- The first residual, of the block's row. -/
abbrev x1 (r : Fin 1024) : Fin 1024 → EReal :=
  mix (fun k => v17 (ix2 r k)) (proj (feats (fun k => v19 (ix2 r k)) (fun k => v21 (ix2 r k)) (fun k => v22 (ix3 0 r k))
    (fun k => v24 (ix3 0 r k))) (fun k l => v27 (ix3 0 k l))) (fun k => v9 (ix2 0 k))

/-- The modulated norm, of the block's row. -/
abbrev hm (r : Fin 1024) : Fin 1024 → EReal :=
  modn (x1 v9 v17 v19 v21 v22 v24 v27 r) (fun k => v13 (ix2 0 k)) (fun k => v3 (ix2 0 k))

/-- The payload of the first residual is the row's first residual. -/
theorem pay9_at (r : Fin 1024) (l : Fin 1024) :
    k0_pay9 (F := Ideal) v9 v17 v19 v21 v22 v24 v27 (ix2 r l) = x1 v9 v17 v19 v21 v22 v24 v27 r l := by
  pointwise [k0_pay9]
  rfl

/-- The payload of the modulated norm is the row's modulated norm. -/
theorem pay10_at (r : Fin 1024) (l : Fin 1024) :
    k0_pay10 (F := Ideal) v3 v9 v13 v17 v19 v21 v22 v24 v27 (ix2 r l) = hm v3 v9 v13 v17 v19 v21 v22 v24 v27 r l := by
  pointwise [k0_pay10, pay9_at]
  rfl

/-- The positive part of the first stretch of hidden units. -/
theorem pay12_at (v59 : FVec Ideal S1x1024x1024 .bf16) (r : Fin 1024) (l : Fin 1024) :
    k0_pay12 (F := Ideal) v3 v9 v13 v17 v19 v21 v22 v24 v27 v59 (ix2 r l)
      = max (∑ k, hm v3 v9 v13 v17 v19 v21 v22 v24 v27 r k * v59 (ix3 0 k l)) 0 := by
  pointwise [k0_pay12, pay10_at]

/-- The first three stretches' share of the MLP. -/
theorem pay13_at (v57 : FVec Ideal S1024x1024 .bf16) (v58 v63 : FVec Ideal S1024x1024 .f32)
    (v66 v70 v77 v81 v88 : FVec Ideal S1x1024x1024 .bf16) (r l : Fin 1024) :
    k0_pay13 (F := Ideal) v57 v58 v63 v66 v70 v77 v81 v88 (ix2 r l)
      = ((v58 (ix2 r l) + ∑ q, v63 (ix2 r q) * v63 (ix2 r q) * v66 (ix3 0 q l))
          + ∑ q, hid (fun k => v57 (ix2 r k)) (fun k => v70 (ix3 0 k q)) * v77 (ix3 0 q l))
          + ∑ q, hid (fun k => v57 (ix2 r k)) (fun k => v81 (ix3 0 k q)) * v88 (ix3 0 q l) := by
  pointwise [k0_pay13]
  rfl

/-- The positive part of the last stretch of hidden units. -/
theorem pay14_at (v57 : FVec Ideal S1024x1024 .bf16) (v92 : FVec Ideal S1x1024x1024 .bf16) (r q : Fin 1024) :
    k0_pay14 (F := Ideal) v57 v92 (ix2 r q) = max (∑ k, v57 (ix2 r k) * v92 (ix3 0 k q)) 0 := by
  pointwise [k0_pay14]

/-- What is stored: the second residual, of the first and of the four stretches' MLP. -/
theorem pay1_at (v15 : FVec Ideal S1x1024 .f32) (v42 v91 v96 : FVec Ideal S1024x1024 .f32) (v99 : FVec Ideal S1x1024x1024 .bf16)
    (r l : Fin 1024) :
    k0_pay1 (F := Ideal) v15 v42 v91 v96 v99 (ix3 0 r l)
      = mix (fun k => v42 (ix2 r k)) (fun k => v91 (ix2 r k) + ∑ q, v96 (ix2 r q) * v96 (ix2 r q) * v99 (ix3 0 q k))
          (fun k => v15 (ix2 0 k)) l := by
  pointwise [k0_pay1]
  rfl

/-- What the body stores, from everything it loads: where the loaded vectors read as the rows and the weights of one
    position, the stored element is the layer's tail there. -/
theorem stored_at (a0 a1 a2 a3 : FVec Ideal S1x1x1x1024 .f32) (n1 n2 n3 : FVec Ideal S1x1024 .f32)
    (X : FVec Ideal S1x1024x1024 .f32) (p0 p1 p2 p3 : FVec Ideal S1x1024x256 .bf16) (W : FVec Ideal S1x1024x1024 .bf16)
    (u0 u1 u2 u3 d0 d1 d2 d3 : FVec Ideal S1x1024x1024 .bf16) (r l : Fin 1024)
    (x : Fin 1024 → EReal) (q0 q1 q2 q3 : Fin 256 → EReal) (md : Fin 6144 → EReal) (gmix gpre gpost : Fin 1024 → EReal)
    (w : Fin 1024 → Fin 1024 → EReal) (w1 : Fin 1024 → Fin 4096 → EReal) (w2 : Fin 4096 → Fin 1024 → EReal)
    (ha0 : ∀ k : Fin 1024, a0 (ix4 0 0 0 k) = md ⟨2048 + k, by omega⟩)
    (ha1 : ∀ k : Fin 1024, a1 (ix4 0 0 0 k) = md ⟨3072 + k, by omega⟩)
    (ha2 : ∀ k : Fin 1024, a2 (ix4 0 0 0 k) = md ⟨4096 + k, by omega⟩)
    (ha3 : ∀ k : Fin 1024, a3 (ix4 0 0 0 k) = md ⟨5120 + k, by omega⟩)
    (hn1 : ∀ k : Fin 1024, n1 (ix2 0 k) = gmix k) (hn2 : ∀ k : Fin 1024, n2 (ix2 0 k) = gpre k)
    (hn3 : ∀ k : Fin 1024, n3 (ix2 0 k) = gpost k)
    (hX : ∀ k : Fin 1024, X (ix3 0 r k) = x k)
    (hp0 : ∀ k : Fin 256, p0 (ix3 0 r k) = q0 k) (hp1 : ∀ k : Fin 256, p1 (ix3 0 r k) = q1 k)
    (hp2 : ∀ k : Fin 256, p2 (ix3 0 r k) = q2 k) (hp3 : ∀ k : Fin 256, p3 (ix3 0 r k) = q3 k)
    (hW : ∀ k o : Fin 1024, W (ix3 0 k o) = w k o)
    (hu0 : ∀ k q : Fin 1024, u0 (ix3 0 k q) = w1 k ⟨q, by omega⟩)
    (hu1 : ∀ k q : Fin 1024, u1 (ix3 0 k q) = w1 k ⟨1024 + q, by omega⟩)
    (hu2 : ∀ k q : Fin 1024, u2 (ix3 0 k q) = w1 k ⟨2048 + q, by omega⟩)
    (hu3 : ∀ k q : Fin 1024, u3 (ix3 0 k q) = w1 k ⟨3072 + q, by omega⟩)
    (hd0 : ∀ q o : Fin 1024, d0 (ix3 0 q o) = w2 ⟨q, by omega⟩ o)
    (hd1 : ∀ q o : Fin 1024, d1 (ix3 0 q o) = w2 ⟨1024 + q, by omega⟩ o)
    (hd2 : ∀ q o : Fin 1024, d2 (ix3 0 q o) = w2 ⟨2048 + q, by omega⟩ o)
    (hd3 : ∀ q o : Fin 1024, d3 (ix3 0 q o) = w2 ⟨3072 + q, by omega⟩ o) :
    k0_pay1 (F := Ideal) (k0_pay5 a3 n3)
        (k0_pay9 (k0_pay3 a0 n1) (k0_pay6 X) (k0_pay7 p0) (k0_pay8 p1) p2 p3 W)
        (k0_pay13 (k0_pay10 (k0_pay2 a1) (k0_pay3 a0 n1) (k0_pay4 a2 n2) (k0_pay6 X) (k0_pay7 p0) (k0_pay8 p1) p2 p3 W)
          k0_pay11 (k0_pay12 (k0_pay2 a1) (k0_pay3 a0 n1) (k0_pay4 a2 n2) (k0_pay6 X) (k0_pay7 p0) (k0_pay8 p1) p2 p3 W u0)
          d0 u1 d1 u2 d2)
        (k0_pay14 (k0_pay10 (k0_pay2 a1) (k0_pay3 a0 n1) (k0_pay4 a2 n2) (k0_pay6 X) (k0_pay7 p0) (k0_pay8 p1) p2 p3 W) u3)
        d3 (ix3 0 r l)
      = tail x (feats q0 q1 q2 q3) md gmix gpre gpost w w1 w2 l := by
  have e1 : x1 (k0_pay3 a0 n1) (k0_pay6 X) (k0_pay7 p0) (k0_pay8 p1) p2 p3 W r
      = mix x (proj (feats q0 q1 q2 q3) w) (fun k => gmix k * md ⟨2048 + k, by omega⟩) := by
    unfold x1
    simp only [hp2, hp3, hW]
    pointwise [k0_pay3, k0_pay6, k0_pay7, k0_pay8, hX, hp0, hp1, hn1, ha0]
  have e2 : hm (k0_pay2 a1) (k0_pay3 a0 n1) (k0_pay4 a2 n2) (k0_pay6 X) (k0_pay7 p0) (k0_pay8 p1) p2 p3 W r
      = modn (mix x (proj (feats q0 q1 q2 q3) w) (fun k => gmix k * md ⟨2048 + k, by omega⟩))
          (fun k => gpre k * (1 + md ⟨4096 + k, by omega⟩)) (fun k => md ⟨3072 + k, by omega⟩) := by
    unfold hm
    rw [e1]
    pointwise [k0_pay2, k0_pay4, hn2, ha1, ha2]
  rw [pay1_at]
  simp only [pay9_at, pay13_at, pay14_at, pay12_at, pay10_at, e1, e2, hu0, hu1, hu2, hu3, hd0, hd1, hd2, hd3]
  unfold tail row
  refine congrArg₂ (fun g h => mix _ g h l) (funext fun o => ?_) (funext fun o => ?_)
  · rw [← mlp_chunks]
    refine congrArg₂ (· + ·) (congrArg₂ (· + ·) (congrArg₂ (· + ·) (congrArg₂ (· + ·) ?_ rfl) rfl) rfl) rfl
    pointwise [k0_pay11]
  · pointwise [k0_pay5, hn3, ha3]

end Cert.OutMlpIdeal.Block
-- ==== Proof.MlpValue.lean ====
/- The result array of the output-projection-and-MLP kernel after its run: every row the row function of the rows of
   the arguments. -/
module

public import proofs.«01_k».proof.Proof.Gen.OutMlpIdeal.Frame
public import proofs.«01_k».proof.Proof.MlpBlock
public import Idealize.ShloMosaic.Lib.Pipeline.ValueKit
public import Idealize.ShloMosaic.Lib.StableHlo.ReadAt
public import Idealize.ShloMosaic.Lib.Claim

@[expose] public section

set_option maxRecDepth 16384

noncomputable section

namespace Cert.OutMlpIdeal.Block

open Idealize.ShloMosaic Idealize.ShloMosaic.TcCoe Idealize.SL.Sem
open Idealize.ShloMosaic.Pipeline (Dat)
open Cert.OutMlpIdeal Cert.OutMlpIdeal.Gen
open Cert.MlpRow

/-- The contents of the program's buffers. -/
abbrev Vals := Valuation τ sig (Elt Ideal)

/-- The modulation operand: batches 0 to 3 of the padded, stacked modulation are the argument's rows. -/
theorem mod_at (W : Vals) (b : Fin 4) (j : Fin 6) (k : Fin 1024) :
    (StableHlo.after hostOps0 W (Proc.devRef .tc main_v6) : FVec Ideal S2x8x6x1024 .f32) (ix4 1 ⟨b, by omega⟩ j k)
      = (W (Proc.devRef .tc main_arg5) : FVec Ideal S2x4x6144 .f32) (ix3 1 b ⟨j * 1024 + k, by omega⟩) := by
  after_reads_at
  after_reads_simp

/-- The first and third mixers' outputs side by side. -/
theorem ycat_at (W : Vals) (b : Fin 4) (p : Fin 4096) (k : Fin 512) :
    (StableHlo.after hostOps0 W (Proc.devRef .tc main_v8) : FVec Ideal S4x4096x512 .bf16) (ix3 b p k)
      = if h : (k : ℕ) < 256 then (W (Proc.devRef .tc main_arg1) : FVec Ideal S4x4096x256 .f32) (ix3 b p ⟨k, h⟩)
        else (W (Proc.devRef .tc main_arg3) : FVec Ideal S4x4096x256 .f32) (ix3 b p ⟨k - 256, by omega⟩) := by
  after_reads_at
  after_reads_simp

/-- Operand `main_v9` is argument `main_arg2`. -/
theorem y1_at (W : Vals) (i : S4x4096x256.Idx) :
    (StableHlo.after hostOps0 W (Proc.devRef .tc main_v9) : FVec Ideal S4x4096x256 .bf16) i
      = (W (Proc.devRef .tc main_arg2) : FVec Ideal S4x4096x256 .f32) i := by
  after_reads_at

/-- Operand `main_v10` is argument `main_arg4`. -/
theorem y3_at (W : Vals) (i : S4x4096x256.Idx) :
    (StableHlo.after hostOps0 W (Proc.devRef .tc main_v10) : FVec Ideal S4x4096x256 .bf16) i
      = (W (Proc.devRef .tc main_arg4) : FVec Ideal S4x4096x256 .f32) i := by
  after_reads_at

/-- Operand `main_v0` is argument `main_arg10`. -/
theorem w_at (W : Vals) (i : S2x1024x1024.Idx) :
    (StableHlo.after hostOps0 W (Proc.devRef .tc main_v0) : FVec Ideal S2x1024x1024 .bf16) i
      = (W (Proc.devRef .tc main_arg10) : FVec Ideal S2x1024x1024 .f32) i := by
  after_reads_at

/-- Operand `main_v1` is argument `main_arg11`. -/
theorem w1_at (W : Vals) (i : S2x1024x4096.Idx) :
    (StableHlo.after hostOps0 W (Proc.devRef .tc main_v1) : FVec Ideal S2x1024x4096 .bf16) i
      = (W (Proc.devRef .tc main_arg11) : FVec Ideal S2x1024x4096 .f32) i := by
  after_reads_at

/-- Operand `main_v2` is argument `main_arg12`. -/
theorem w2_at (W : Vals) (i : S2x4096x1024.Idx) :
    (StableHlo.after hostOps0 W (Proc.devRef .tc main_v2) : FVec Ideal S2x4096x1024 .bf16) i
      = (W (Proc.devRef .tc main_arg12) : FVec Ideal S2x4096x1024 .f32) i := by
  after_reads_at

variable (m : (ℓ : Loc nD τ sig) → Buf (Elt Ideal) ℓ)

/-- Which block each window reads or writes at a grid point. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![1, (grid0.coords t 0).val, 0, 0]
    ∧ win0_5.index t = ![0, 0] ∧ win0_6.index t = ![0, 0] ∧ win0_7.index t = ![0, 0]
    ∧ win0_8.index t = ![1, 0, 0] ∧ win0_9.index t = ![1, 0, 0] ∧ win0_10.index t = ![1, 0, 0]
    ∧ win0_11.index t = ![(grid0.coords t 0).val, (grid0.coords t 1).val, 0] :=
  (by decide +kernel : ∀ t : Fin grid0.N, _)

/-- The position a block's row `r` stands for. -/
def row (t : Fin cfg0.N) (r : Fin 1024) : Fin 4096 := ⟨(grid0.coords t 1).val * 1024 + r, by
  have h : (grid0.coords t 1).val < 4 := (grid0.coords t 1).isLt
  omega⟩

/-! The blocks of the windows, entry by entry, from the arguments. -/

/-- Window 0: the residual stream. -/
theorem blk0 (c : Dev nD) (t : Fin cfg0.N) (r k : Fin 1024) :
    (iblk m c 0 t : FVec Ideal S1x1024x1024 .f32) (ix3 0 r k)
      = (m ((c : Thread nD τ).loc main_arg0) : FVec Ideal S4x4096x1024 .f32) (ix3 (grid0.coords t 0) (row t r) k) := by
  rw [← V_main_arg0 m c]
  blk_ext [iblk, row, idx t]

/-- Window 1: the first and third mixers' outputs. -/
theorem blk1 (c : Dev nD) (t : Fin cfg0.N) (r : Fin 1024) (k : Fin 512) :
    (iblk m c 1 t : FVec Ideal S1x1024x512 .bf16) (ix3 0 r k)
      = if h : (k : ℕ) < 256 then (m ((c : Thread nD τ).loc main_arg1) : FVec Ideal S4x4096x256 .f32) (ix3 (grid0.coords t 0) (row t r) ⟨k, h⟩)
        else (m ((c : Thread nD τ).loc main_arg3) : FVec Ideal S4x4096x256 .f32) (ix3 (grid0.coords t 0) (row t r) ⟨k - 256, by omega⟩) := by
  refine Eq.trans ?_ (ycat_at (fun b => m (c, b)) (grid0.coords t 0) (row t r) k)
  blk_ext [iblk, V, row, idx t]

/-- Window 2: the second mixer's output. -/
theorem blk2 (c : Dev nD) (t : Fin cfg0.N) (r : Fin 1024) (k : Fin 256) :
    (iblk m c 2 t : FVec Ideal S1x1024x256 .bf16) (ix3 0 r k)
      = (m ((c : Thread nD τ).loc main_arg2) : FVec Ideal S4x4096x256 .f32) (ix3 (grid0.coords t 0) (row t r) k) := by
  refine Eq.trans ?_ (y1_at (fun b => m (c, b)) (ix3 (grid0.coords t 0) (row t r) k))
  blk_ext [iblk, V, row, idx t]

/-- Window 3: the fourth mixer's output. -/
theorem blk3 (c : Dev nD) (t : Fin cfg0.N) (r : Fin 1024) (k : Fin 256) :
    (iblk m c 3 t : FVec Ideal S1x1024x256 .bf16) (ix3 0 r k)
      = (m ((c : Thread nD τ).loc main_arg4) : FVec Ideal S4x4096x256 .f32) (ix3 (grid0.coords t 0) (row t r) k) := by
  refine Eq.trans ?_ (y3_at (fun b => m (c, b)) (ix3 (grid0.coords t 0) (row t r) k))
  blk_ext [iblk, V, row, idx t]

/-- Window 4: the six modulation rows of the batch. -/
theorem blk4 (c : Dev nD) (t : Fin cfg0.N) (j : Fin 6) (k : Fin 1024) :
    (iblk m c 4 t : FVec Ideal S1x1x6x1024 .f32) (ix4 0 0 j k)
      = (m ((c : Thread nD τ).loc main_arg5) : FVec Ideal S2x4x6144 .f32) (ix3 1 (grid0.coords t 0) ⟨j * 1024 + k, by omega⟩) := by
  refine Eq.trans ?_ (mod_at (fun b => m (c, b)) (grid0.coords t 0) j k)
  blk_ext [iblk, V, idx t]

/-- Window 5: a norm's weights. -/
theorem blk5 (c : Dev nD) (t : Fin cfg0.N) (i : Fin 2) (k : Fin 1024) :
    (iblk m c 5 t : FVec Ideal S2x1024 .f32) (ix2 i k) = (m ((c : Thread nD τ).loc main_arg7) : FVec Ideal S2x1024 .f32) (ix2 i k) := by
  rw [← V_main_arg7 m c]
  blk_ext [iblk, idx t]

/-- Window 6: a norm's weights. -/
theorem blk6 (c : Dev nD) (t : Fin cfg0.N) (i : Fin 2) (k : Fin 1024) :
    (iblk m c 6 t : FVec Ideal S2x1024 .f32) (ix2 i k) = (m ((c : Thread nD τ).loc main_arg8) : FVec Ideal S2x1024 .f32) (ix2 i k) := by
  rw [← V_main_arg8 m c]
  blk_ext [iblk, idx t]

/-- Window 7: a norm's weights. -/
theorem blk7 (c : Dev nD) (t : Fin cfg0.N) (i : Fin 2) (k : Fin 1024) :
    (iblk m c 7 t : FVec Ideal S2x1024 .f32) (ix2 i k) = (m ((c : Thread nD τ).loc main_arg9) : FVec Ideal S2x1024 .f32) (ix2 i k) := by
  rw [← V_main_arg9 m c]
  blk_ext [iblk, idx t]

/-- Window 8: a weight matrix of the layer. -/
theorem blk8 (c : Dev nD) (t : Fin cfg0.N) (k : Fin 1024) (o : Fin 1024) :
    (iblk m c 8 t : FVec Ideal S1x1024x1024 .bf16) (ix3 0 k o) = (m ((c : Thread nD τ).loc main_arg10) : FVec Ideal S2x1024x1024 .f32) (ix3 1 k o) := by
  refine Eq.trans ?_ (w_at (fun b => m (c, b)) (ix3 1 k o))
  blk_ext [iblk, V, idx t]

/-- Window 9: a weight matrix of the layer. -/
theorem blk9 (c : Dev nD) (t : Fin cfg0.N) (k : Fin 1024) (o : Fin 4096) :
    (iblk m c 9 t : FVec Ideal S1x1024x4096 .bf16) (ix3 0 k o) = (m ((c : Thread nD τ).loc main_arg11) : FVec Ideal S2x1024x4096 .f32) (ix3 1 k o) := by
  refine Eq.trans ?_ (w1_at (fun b => m (c, b)) (ix3 1 k o))
  blk_ext [iblk, V, idx t]

/-- Window 10: a weight matrix of the layer. -/
theorem blk10 (c : Dev nD) (t : Fin cfg0.N) (k : Fin 4096) (o : Fin 1024) :
    (iblk m c 10 t : FVec Ideal S1x4096x1024 .bf16) (ix3 0 k o) = (m ((c : Thread nD τ).loc main_arg12) : FVec Ideal S2x4096x1024 .f32) (ix3 1 k o) := by
  refine Eq.trans ?_ (w2_at (fun b => m (c, b)) (ix3 1 k o))
  blk_ext [iblk, V, idx t]

/-- The layer's tail over the argument arrays: position `(b, p)`'s row of the result. -/
def out (x : FVec Ideal S4x4096x1024 .f32) (y0 y1 y2 y3 : FVec Ideal S4x4096x256 .f32) (md : FVec Ideal S2x4x6144 .f32)
    (gmix gpre gpost : FVec Ideal S2x1024 .f32) (w : FVec Ideal S2x1024x1024 .f32) (w1 : FVec Ideal S2x1024x4096 .f32)
    (w2 : FVec Ideal S2x4096x1024 .f32) : FVec Ideal S4x4096x1024 .f32 := fun i =>
  tail (fun k => x (ix3 (i 0) (i 1) k))
    (feats (fun k => y0 (ix3 (i 0) (i 1) k)) (fun k => y1 (ix3 (i 0) (i 1) k)) (fun k => y2 (ix3 (i 0) (i 1) k))
      (fun k => y3 (ix3 (i 0) (i 1) k)))
    (fun k => md (ix3 1 (i 0) k)) (fun k => gmix (ix2 1 k)) (fun k => gpre (ix2 1 k)) (fun k => gpost (ix2 1 k))
    (fun k o => w (ix3 1 k o)) (fun k q => w1 (ix3 1 k q)) (fun q o => w2 (ix3 1 q o)) (i 2)

/-- The result array after the run is the layer's tail over the arguments. -/
theorem final (c : Dev nD) : (dats m 0 c).arrAt 11 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) := by
  refine (dats m 0 c).arrAt_eq_of_covers 11 _ (by decide +kernel) fun t hf y => ?_
  blk_simp
  rw [after0_11]
  unfold_out out0_11
  frame_out
  idx_vars y
  obtain rfl : y0 = 0 := Subsingleton.elim _ _
  refine (stored_at (View.ld (iblk m c 4 t) r0_0) (View.ld (iblk m c 4 t) r0_1) (View.ld (iblk m c 4 t) r0_2)
    (View.ld (iblk m c 4 t) r0_3) (View.ld (iblk m c 5 t) r0_4) (View.ld (iblk m c 6 t) r0_4) (View.ld (iblk m c 7 t) r0_4)
    (iblk m c 0 t) (View.ld (iblk m c 1 t) r0_6) (iblk m c 2 t) (View.ld (iblk m c 1 t) r0_8) (iblk m c 3 t) (iblk m c 8 t)
    (View.ld (iblk m c 9 t) r0_9) (View.ld (iblk m c 9 t) r0_11) (View.ld (iblk m c 9 t) r0_13) (View.ld (iblk m c 9 t) r0_15)
    (View.ld (iblk m c 10 t) r0_10) (View.ld (iblk m c 10 t) r0_12) (View.ld (iblk m c 10 t) r0_14) (View.ld (iblk m c 10 t) r0_16)
    y1 y2
    (fun k => m ((c : Thread nD τ).loc main_arg0) (ix3 (grid0.coords t 0) (row t y1) k))
    (fun k => m ((c : Thread nD τ).loc main_arg1) (ix3 (grid0.coords t 0) (row t y1) k)) (fun k => m ((c : Thread nD τ).loc main_arg2) (ix3 (grid0.coords t 0) (row t y1) k))
    (fun k => m ((c : Thread nD τ).loc main_arg3) (ix3 (grid0.coords t 0) (row t y1) k)) (fun k => m ((c : Thread nD τ).loc main_arg4) (ix3 (grid0.coords t 0) (row t y1) k))
    (fun k => m ((c : Thread nD τ).loc main_arg5) (ix3 1 (grid0.coords t 0) k))
    (fun k => m ((c : Thread nD τ).loc main_arg7) (ix2 1 k)) (fun k => m ((c : Thread nD τ).loc main_arg8) (ix2 1 k)) (fun k => m ((c : Thread nD τ).loc main_arg9) (ix2 1 k))
    (fun k o => m ((c : Thread nD τ).loc main_arg10) (ix3 1 k o)) (fun k q => m ((c : Thread nD τ).loc main_arg11) (ix3 1 k q)) (fun q o => m ((c : Thread nD τ).loc main_arg12) (ix3 1 q o))
    ?_ ?_ ?_ ?_ ?_ ?_ ?_ ?_ ?_ ?_ ?_ ?_ ?_ ?_ ?_ ?_ ?_ ?_ ?_ ?_ ?_).trans ?_
  · intro k
    pointwise
    exact blk4 m c t 2 k
  · intro k
    pointwise
    exact blk4 m c t 3 k
  · intro k
    pointwise
    exact blk4 m c t 4 k
  · intro k
    pointwise
    exact blk4 m c t 5 k
  · intro k
    pointwise
    exact blk5 m c t 1 k
  · intro k
    pointwise
    exact blk6 m c t 1 k
  · intro k
    pointwise
    exact blk7 m c t 1 k
  · intro k
    exact blk0 m c t y1 k
  · intro k
    pointwise
    exact (blk1 m c t y1 ⟨k, by omega⟩).trans (dif_pos k.isLt)
  · intro k
    exact blk2 m c t y1 k
  · intro k
    pointwise
    refine (blk1 m c t y1 ⟨256 + k, by omega⟩).trans ((dif_neg (by simp)).trans ?_)
    simp
  · intro k
    exact blk3 m c t y1 k
  · intro k o
    exact blk8 m c t k o
  · intro k q
    pointwise
    exact blk9 m c t k ⟨q, by omega⟩
  · intro k q
    pointwise
    exact blk9 m c t k ⟨1024 + q, by omega⟩
  · intro k q
    pointwise
    exact blk9 m c t k ⟨2048 + q, by omega⟩
  · intro k q
    pointwise
    exact blk9 m c t k ⟨3072 + q, by omega⟩
  · intro k q
    pointwise
    exact blk10 m c t ⟨k, by omega⟩ q
  · intro k q
    pointwise
    exact blk10 m c t ⟨1024 + k, by omega⟩ q
  · intro k q
    pointwise
    exact blk10 m c t ⟨2048 + k, by omega⟩ q
  · intro k q
    pointwise
    exact blk10 m c t ⟨3072 + k, by omega⟩ q
  · have he : ((View.whole main_v11).slice (win0_11.rect t)).emb (ix3 0 y1 y2)
        = (ix3 (grid0.coords t 0) (row t y1) y2 : S4x4096x1024.Idx) := by blk_ext [row, idx t]
    exact (congrArg (out _ _ _ _ _ _ _ _ _ _ _ _) he).symm

end Cert.OutMlpIdeal.Block
-- ==== Proof.MlpLine.lean ====
/- The reference of the output projection and the MLP as a straight line of host operations, cut into five stretches,
   and its run: every buffer ends at the contents the line leaves. -/
module

public import proofs.«01_k».proof.Proof.Gen.OutMlpReferenceIdeal
public import Idealize.ShloMosaic.Lib.StableHlo.Run

@[expose] public section

noncomputable section

namespace Cert.OutMlpReferenceIdeal.Line

open Cert.OutMlpReferenceIdeal Cert.OutMlpReferenceIdeal.Gen Idealize.ShloMosaic Idealize.ShloMosaic.TcCoe Idealize.SL.Sem Idealize.ShloMosaic.StableHlo

variable {F : FTy → Type} [FloatOps F]

/-- The four mixers' outputs side by side. -/
def feats4 (a b c d : (⟨S4x4096x256, .f32⟩ : BufTy).Contents (Elt F)) : (⟨S4x4096x1024, .f32⟩ : BufTy).Contents (Elt F) :=
  concatenate S4x4096x1024 2 [⟨S4x4096x256, a⟩, ⟨S4x4096x256, b⟩, ⟨S4x4096x256, c⟩, ⟨S4x4096x256, d⟩]
    concatenates_S4x4096x256_S4x4096x256_S4x4096x256_S4x4096x256_S4x4096x1024_d2

/-- The stretch of the modulation slices, the features side by side and the output projection. -/
abbrev projOps : List (HloOp τ sig (Elt F)) :=
  [ unary main_arg5 main_v0 ((extractStridedSlice S1x4x6144 ![1, 0, 0] · slices_S2x4x6144_S1x4x6144_1_0_0) : (⟨S2x4x6144, .f32⟩ : BufTy).Contents (Elt F) → (⟨S1x4x6144, .f32⟩ : BufTy).Contents (Elt F)),
    reshape main_v0 main_v1 (rfl : (.f32 : EltTy) = .f32) shapeCasts_S1x4x6144_S4x6144,
    unary main_v1 main_v2 ((extractStridedSlice S4x1024 ![0, 0] · slices_S4x6144_S4x1024_0_0) : (⟨S4x6144, .f32⟩ : BufTy).Contents (Elt F) → (⟨S4x1024, .f32⟩ : BufTy).Contents (Elt F)),
    unary main_v1 main_v3 ((extractStridedSlice S4x1024 ![0, 1024] · slices_S4x6144_S4x1024_0_1024) : (⟨S4x6144, .f32⟩ : BufTy).Contents (Elt F) → (⟨S4x1024, .f32⟩ : BufTy).Contents (Elt F)),
    unary main_v1 main_v4 ((extractStridedSlice S4x1024 ![0, 2048] · slices_S4x6144_S4x1024_0_2048) : (⟨S4x6144, .f32⟩ : BufTy).Contents (Elt F) → (⟨S4x1024, .f32⟩ : BufTy).Contents (Elt F)),
    unary main_v1 main_v5 ((extractStridedSlice S4x1024 ![0, 3072] · slices_S4x6144_S4x1024_0_3072) : (⟨S4x6144, .f32⟩ : BufTy).Contents (Elt F) → (⟨S4x1024, .f32⟩ : BufTy).Contents (Elt F)),
    unary main_v1 main_v6 ((extractStridedSlice S4x1024 ![0, 4096] · slices_S4x6144_S4x1024_0_4096) : (⟨S4x6144, .f32⟩ : BufTy).Contents (Elt F) → (⟨S4x1024, .f32⟩ : BufTy).Contents (Elt F)),
    unary main_v1 main_v7 ((extractStridedSlice S4x1024 ![0, 5120] · slices_S4x6144_S4x1024_0_5120) : (⟨S4x6144, .f32⟩ : BufTy).Contents (Elt F) → (⟨S4x1024, .f32⟩ : BufTy).Contents (Elt F)),
    unary main_v2 main_v8 (broadcastInDim S4x1x1024 ![0, 2] bcast_S4x1024_S4x1x1024_0_2 : (⟨S4x1024, .f32⟩ : BufTy).Contents (Elt F) → (⟨S4x1x1024, .f32⟩ : BufTy).Contents (Elt F)),
    unary main_v3 main_v9 (broadcastInDim S4x1x1024 ![0, 2] bcast_S4x1024_S4x1x1024_0_2 : (⟨S4x1024, .f32⟩ : BufTy).Contents (Elt F) → (⟨S4x1x1024, .f32⟩ : BufTy).Contents (Elt F)),
    unary main_v4 main_v10 (broadcastInDim S4x1x1024 ![0, 2] bcast_S4x1024_S4x1x1024_0_2 : (⟨S4x1024, .f32⟩ : BufTy).Contents (Elt F) → (⟨S4x1x1024, .f32⟩ : BufTy).Contents (Elt F)),
    unary main_v5 main_v11 (broadcastInDim S4x1x1024 ![0, 2] bcast_S4x1024_S4x1x1024_0_2 : (⟨S4x1024, .f32⟩ : BufTy).Contents (Elt F) → (⟨S4x1x1024, .f32⟩ : BufTy).Contents (Elt F)),
    unary main_v6 main_v12 (broadcastInDim S4x1x1024 ![0, 2] bcast_S4x1024_S4x1x1024_0_2 : (⟨S4x1024, .f32⟩ : BufTy).Contents (Elt F) → (⟨S4x1x1024, .f32⟩ : BufTy).Contents (Elt F)),
    unary main_v7 main_v13 (broadcastInDim S4x1x1024 ![0, 2] bcast_S4x1024_S4x1x1024_0_2 : (⟨S4x1024, .f32⟩ : BufTy).Contents (Elt F) → (⟨S4x1x1024, .f32⟩ : BufTy).Contents (Elt F)),
    nary ![main_arg1, main_arg2, main_arg3, main_arg4] main_v14 (fun u => feats4 (F := F) (u 0) (u 1) (u 2) (u 3)),
    unary main_arg10 main_v15 ((extractStridedSlice S1x1024x1024 ![1, 0, 0] · slices_S2x1024x1024_S1x1024x1024_1_0_0) : (⟨S2x1024x1024, .f32⟩ : BufTy).Contents (Elt F) → (⟨S1x1024x1024, .f32⟩ : BufTy).Contents (Elt F)),
    reshape main_v15 main_v16 (rfl : (.f32 : EltTy) = .f32) shapeCasts_S1x1024x1024_S1024x1024,
    binary main_v14 main_v16 main_v17 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)) ]

/-- The stretch of the first norm and residual. -/
abbrev mixedOps : List (HloOp τ sig (Elt F)) :=
  [ unary main_arg7 main_v18 ((extractStridedSlice S1x1024 ![1, 0] · slices_S2x1024_S1x1024_1_0) : (⟨S2x1024, .f32⟩ : BufTy).Contents (Elt F) → (⟨S1x1024, .f32⟩ : BufTy).Contents (Elt F)),
    reshape main_v18 main_v19 (rfl : (.f32 : EltTy) = .f32) shapeCasts_S1x1024_S1024,
    binary main_v17 main_v17 main_v20 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v20 main_cst main_v21 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v21 main_v22 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v23 (broadcastInDim S4x4096x1 ![] bcast_S_S4x4096x1 : (⟨S_, .f32⟩ : BufTy).Contents (Elt F) → (⟨S4x4096x1, .f32⟩ : BufTy).Contents (Elt F)),
    binary main_v22 main_v23 main_v24 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x358637BD#32),
    unary main_cst_1 main_v25 (broadcastInDim S4x4096x1 ![] bcast_S_S4x4096x1 : (⟨S_, .f32⟩ : BufTy).Contents (Elt F) → (⟨S4x4096x1, .f32⟩ : BufTy).Contents (Elt F)),
    binary main_v24 main_v25 main_v26 (addf : (⟨S4x4096x1, .f32⟩ : BufTy).Contents (Elt F) → (⟨S4x4096x1, .f32⟩ : BufTy).Contents (Elt F) → (⟨S4x4096x1, .f32⟩ : BufTy).Contents (Elt F)),
    unary main_v26 main_v27 (Host.rsqrt : (⟨S4x4096x1, .f32⟩ : BufTy).Contents (Elt F) → (⟨S4x4096x1, .f32⟩ : BufTy).Contents (Elt F)),
    unary main_v27 main_v28 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v17 main_v28 main_v29 (mulf : (⟨S4x4096x1024, .f32⟩ : BufTy).Contents (Elt F) → (⟨S4x4096x1024, .f32⟩ : BufTy).Contents (Elt F) → (⟨S4x4096x1024, .f32⟩ : BufTy).Contents (Elt F)),
    unary main_v19 main_v30 (broadcastInDim S1x1x1024 ![2] bcast_S1024_S1x1x1024_2 : (⟨S1024, .f32⟩ : BufTy).Contents (Elt F) → (⟨S1x1x1024, .f32⟩ : BufTy).Contents (Elt F)),
    unary main_v30 main_v31 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v29 main_v31 main_v32 (mulf : (⟨S4x4096x1024, .f32⟩ : BufTy).Contents (Elt F) → (⟨S4x4096x1024, .f32⟩ : BufTy).Contents (Elt F) → (⟨S4x4096x1024, .f32⟩ : BufTy).Contents (Elt F)),
    unary main_v10 main_v33 (broadcastInDim S4x4096x1024 ![0, 1, 2] bcast_S4x1x1024_S4x4096x1024_0_1_2 : (⟨S4x1x1024, .f32⟩ : BufTy).Contents (Elt F) → (⟨S4x4096x1024, .f32⟩ : BufTy).Contents (Elt F)),
    binary main_v33 main_v32 main_v34 (mulf : (⟨S4x4096x1024, .f32⟩ : BufTy).Contents (Elt F) → (⟨S4x4096x1024, .f32⟩ : BufTy).Contents (Elt F) → (⟨S4x4096x1024, .f32⟩ : BufTy).Contents (Elt F)),
    binary main_arg0 main_v34 main_v35 (addf : (⟨S4x4096x1024, .f32⟩ : BufTy).Contents (Elt F) → (⟨S4x4096x1024, .f32⟩ : BufTy).Contents (Elt F) → (⟨S4x4096x1024, .f32⟩ : BufTy).Contents (Elt F)) ]

/-- The stretch of the modulated norm. -/
abbrev normedOps : List (HloOp τ sig (Elt F)) :=
  [ unary main_arg8 main_v36 ((extractStridedSlice S1x1024 ![1, 0] · slices_S2x1024_S1x1024_1_0) : (⟨S2x1024, .f32⟩ : BufTy).Contents (Elt F) → (⟨S1x1024, .f32⟩ : BufTy).Contents (Elt F)),
    reshape main_v36 main_v37 (rfl : (.f32 : EltTy) = .f32) shapeCasts_S1x1024_S1024,
    binary main_v35 main_v35 main_v38 (mulf : (⟨S4x4096x1024, .f32⟩ : BufTy).Contents (Elt F) → (⟨S4x4096x1024, .f32⟩ : BufTy).Contents (Elt F) → (⟨S4x4096x1024, .f32⟩ : BufTy).Contents (Elt F)),
    nullary main_cst_2 (constant S_ .f32 0x00000000#32),
    binary main_v38 main_cst_2 main_v39 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v39 main_v40 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_3 (constant S_ .f32 0x44800000#32),
    unary main_cst_3 main_v41 (broadcastInDim S4x4096x1 ![] bcast_S_S4x4096x1 : (⟨S_, .f32⟩ : BufTy).Contents (Elt F) → (⟨S4x4096x1, .f32⟩ : BufTy).Contents (Elt F)),
    binary main_v40 main_v41 main_v42 (Host.divf : (⟨S4x4096x1, .f32⟩ : BufTy).Contents (Elt F) → (⟨S4x4096x1, .f32⟩ : BufTy).Contents (Elt F) → (⟨S4x4096x1, .f32⟩ : BufTy).Contents (Elt F)),
    nullary main_cst_4 (constant S_ .f32 0x358637BD#32),
    unary main_cst_4 main_v43 (broadcastInDim S4x4096x1 ![] bcast_S_S4x4096x1 : (⟨S_, .f32⟩ : BufTy).Contents (Elt F) → (⟨S4x4096x1, .f32⟩ : BufTy).Contents (Elt F)),
    binary main_v42 main_v43 main_v44 (addf : (⟨S4x4096x1, .f32⟩ : BufTy).Contents (Elt F) → (⟨S4x4096x1, .f32⟩ : BufTy).Contents (Elt F) → (⟨S4x4096x1, .f32⟩ : BufTy).Contents (Elt F)),
    unary main_v44 main_v45 (Host.rsqrt : (⟨S4x4096x1, .f32⟩ : BufTy).Contents (Elt F) → (⟨S4x4096x1, .f32⟩ : BufTy).Contents (Elt F)),
    unary main_v45 main_v46 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v35 main_v46 main_v47 (mulf : (⟨S4x4096x1024, .f32⟩ : BufTy).Contents (Elt F) → (⟨S4x4096x1024, .f32⟩ : BufTy).Contents (Elt F) → (⟨S4x4096x1024, .f32⟩ : BufTy).Contents (Elt F)),
    unary main_v37 main_v48 (broadcastInDim S1x1x1024 ![2] bcast_S1024_S1x1x1024_2 : (⟨S1024, .f32⟩ : BufTy).Contents (Elt F) → (⟨S1x1x1024, .f32⟩ : BufTy).Contents (Elt F)),
    unary main_v48 main_v49 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v47 main_v49 main_v50 (mulf : (⟨S4x4096x1024, .f32⟩ : BufTy).Contents (Elt F) → (⟨S4x4096x1024, .f32⟩ : BufTy).Contents (Elt F) → (⟨S4x4096x1024, .f32⟩ : BufTy).Contents (Elt F)),
    nullary main_cst_5 (constant S_ .f32 0x3F800000#32),
    unary main_cst_5 main_v51 (broadcastInDim S4x1x1024 ![] bcast_S_S4x1x1024 : (⟨S_, .f32⟩ : BufTy).Contents (Elt F) → (⟨S4x1x1024, .f32⟩ : BufTy).Contents (Elt F)),
    binary main_v51 main_v12 main_v52 (addf : (⟨S4x1x1024, .f32⟩ : BufTy).Contents (Elt F) → (⟨S4x1x1024, .f32⟩ : BufTy).Contents (Elt F) → (⟨S4x1x1024, .f32⟩ : BufTy).Contents (Elt F)),
    unary main_v52 main_v53 (broadcastInDim S4x4096x1024 ![0, 1, 2] bcast_S4x1x1024_S4x4096x1024_0_1_2 : (⟨S4x1x1024, .f32⟩ : BufTy).Contents (Elt F) → (⟨S4x4096x1024, .f32⟩ : BufTy).Contents (Elt F)),
    binary main_v50 main_v53 main_v54 (mulf : (⟨S4x4096x1024, .f32⟩ : BufTy).Contents (Elt F) → (⟨S4x4096x1024, .f32⟩ : BufTy).Contents (Elt F) → (⟨S4x4096x1024, .f32⟩ : BufTy).Contents (Elt F)),
    unary main_v11 main_v55 (broadcastInDim S4x4096x1024 ![0, 1, 2] bcast_S4x1x1024_S4x4096x1024_0_1_2 : (⟨S4x1x1024, .f32⟩ : BufTy).Contents (Elt F) → (⟨S4x4096x1024, .f32⟩ : BufTy).Contents (Elt F)),
    binary main_v54 main_v55 main_v56 (addf : (⟨S4x4096x1024, .f32⟩ : BufTy).Contents (Elt F) → (⟨S4x4096x1024, .f32⟩ : BufTy).Contents (Elt F) → (⟨S4x4096x1024, .f32⟩ : BufTy).Contents (Elt F)) ]

/-- The stretch of the MLP. -/
abbrev hiddenOps : List (HloOp τ sig (Elt F)) :=
  [ unary main_arg11 main_v57 ((extractStridedSlice S1x1024x4096 ![1, 0, 0] · slices_S2x1024x4096_S1x1024x4096_1_0_0) : (⟨S2x1024x4096, .f32⟩ : BufTy).Contents (Elt F) → (⟨S1x1024x4096, .f32⟩ : BufTy).Contents (Elt F)),
    reshape main_v57 main_v58 (rfl : (.f32 : EltTy) = .f32) shapeCasts_S1x1024x4096_S1024x4096,
    binary main_v56 main_v58 main_v59 ((fun l r => Host.dotGeneral dot_S4x4096x1024_S1024x4096_S4x4096x4096_2_0_01_1_n_n none l r) : (⟨S4x4096x1024, .f32⟩ : BufTy).Contents (Elt F) → (⟨S1024x4096, .f32⟩ : BufTy).Contents (Elt F) → (⟨S4x4096x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x4096x4096, .f32⟩) main_call0_v0) (broadcastInDim S4x4096x4096 ![] bcast_S_S4x4096x4096),
    TRef.binary (TRef.of (T := ⟨S4x4096x4096, .f32⟩) main_v59) (TRef.of (T := ⟨S4x4096x4096, .f32⟩) main_call0_v0) (TRef.of (T := ⟨S4x4096x4096, .f32⟩) main_v60) maximumf,
    binary main_v60 main_v60 main_v61 (mulf : (⟨S4x4096x4096, .f32⟩ : BufTy).Contents (Elt F) → (⟨S4x4096x4096, .f32⟩ : BufTy).Contents (Elt F) → (⟨S4x4096x4096, .f32⟩ : BufTy).Contents (Elt F)),
    unary main_arg12 main_v62 ((extractStridedSlice S1x4096x1024 ![1, 0, 0] · slices_S2x4096x1024_S1x4096x1024_1_0_0) : (⟨S2x4096x1024, .f32⟩ : BufTy).Contents (Elt F) → (⟨S1x4096x1024, .f32⟩ : BufTy).Contents (Elt F)),
    reshape main_v62 main_v63 (rfl : (.f32 : EltTy) = .f32) shapeCasts_S1x4096x1024_S4096x1024,
    binary main_v61 main_v63 main_v64 ((fun l r => Host.dotGeneral dot_S4x4096x4096_S4096x1024_S4x4096x1024_2_0_01_1_n_n none l r) : (⟨S4x4096x4096, .f32⟩ : BufTy).Contents (Elt F) → (⟨S4096x1024, .f32⟩ : BufTy).Contents (Elt F) → (⟨S4x4096x1024, .f32⟩ : BufTy).Contents (Elt F)) ]

/-- The stretch of the second norm and residual. -/
abbrev lastOps : List (HloOp τ sig (Elt F)) :=
  [ unary main_arg9 main_v65 ((extractStridedSlice S1x1024 ![1, 0] · slices_S2x1024_S1x1024_1_0) : (⟨S2x1024, .f32⟩ : BufTy).Contents (Elt F) → (⟨S1x1024, .f32⟩ : BufTy).Contents (Elt F)),
    reshape main_v65 main_v66 (rfl : (.f32 : EltTy) = .f32) shapeCasts_S1x1024_S1024,
    binary main_v64 main_v64 main_v67 (mulf : (⟨S4x4096x1024, .f32⟩ : BufTy).Contents (Elt F) → (⟨S4x4096x1024, .f32⟩ : BufTy).Contents (Elt F) → (⟨S4x4096x1024, .f32⟩ : BufTy).Contents (Elt F)),
    nullary main_cst_6 (constant S_ .f32 0x00000000#32),
    binary main_v67 main_cst_6 main_v68 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v68 main_v69 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_7 (constant S_ .f32 0x44800000#32),
    unary main_cst_7 main_v70 (broadcastInDim S4x4096x1 ![] bcast_S_S4x4096x1 : (⟨S_, .f32⟩ : BufTy).Contents (Elt F) → (⟨S4x4096x1, .f32⟩ : BufTy).Contents (Elt F)),
    binary main_v69 main_v70 main_v71 (Host.divf : (⟨S4x4096x1, .f32⟩ : BufTy).Contents (Elt F) → (⟨S4x4096x1, .f32⟩ : BufTy).Contents (Elt F) → (⟨S4x4096x1, .f32⟩ : BufTy).Contents (Elt F)),
    nullary main_cst_8 (constant S_ .f32 0x358637BD#32),
    unary main_cst_8 main_v72 (broadcastInDim S4x4096x1 ![] bcast_S_S4x4096x1 : (⟨S_, .f32⟩ : BufTy).Contents (Elt F) → (⟨S4x4096x1, .f32⟩ : BufTy).Contents (Elt F)),
    binary main_v71 main_v72 main_v73 (addf : (⟨S4x4096x1, .f32⟩ : BufTy).Contents (Elt F) → (⟨S4x4096x1, .f32⟩ : BufTy).Contents (Elt F) → (⟨S4x4096x1, .f32⟩ : BufTy).Contents (Elt F)),
    unary main_v73 main_v74 (Host.rsqrt : (⟨S4x4096x1, .f32⟩ : BufTy).Contents (Elt F) → (⟨S4x4096x1, .f32⟩ : BufTy).Contents (Elt F)),
    unary main_v74 main_v75 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v64 main_v75 main_v76 (mulf : (⟨S4x4096x1024, .f32⟩ : BufTy).Contents (Elt F) → (⟨S4x4096x1024, .f32⟩ : BufTy).Contents (Elt F) → (⟨S4x4096x1024, .f32⟩ : BufTy).Contents (Elt F)),
    unary main_v66 main_v77 (broadcastInDim S1x1x1024 ![2] bcast_S1024_S1x1x1024_2 : (⟨S1024, .f32⟩ : BufTy).Contents (Elt F) → (⟨S1x1x1024, .f32⟩ : BufTy).Contents (Elt F)),
    unary main_v77 main_v78 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v76 main_v78 main_v79 (mulf : (⟨S4x4096x1024, .f32⟩ : BufTy).Contents (Elt F) → (⟨S4x4096x1024, .f32⟩ : BufTy).Contents (Elt F) → (⟨S4x4096x1024, .f32⟩ : BufTy).Contents (Elt F)),
    unary main_v13 main_v80 (broadcastInDim S4x4096x1024 ![0, 1, 2] bcast_S4x1x1024_S4x4096x1024_0_1_2 : (⟨S4x1x1024, .f32⟩ : BufTy).Contents (Elt F) → (⟨S4x4096x1024, .f32⟩ : BufTy).Contents (Elt F)),
    binary main_v80 main_v79 main_v81 (mulf : (⟨S4x4096x1024, .f32⟩ : BufTy).Contents (Elt F) → (⟨S4x4096x1024, .f32⟩ : BufTy).Contents (Elt F) → (⟨S4x4096x1024, .f32⟩ : BufTy).Contents (Elt F)),
    binary main_v35 main_v81 main_v82 (addf : (⟨S4x4096x1024, .f32⟩ : BufTy).Contents (Elt F) → (⟨S4x4096x1024, .f32⟩ : BufTy).Contents (Elt F) → (⟨S4x4096x1024, .f32⟩ : BufTy).Contents (Elt F)) ]

/-- The whole line. -/
abbrev ops : List (HloOp τ sig (Elt F)) := projOps ++ (mixedOps ++ (normedOps ++ (hiddenOps ++ (lastOps))))

set_option maxRecDepth 8192 in
set_option maxHeartbeats 4000000 in
/-- The program is the line. -/
theorem main_eq (c : Dev nD) : main (F := F) c = seq ops := rfl

/-- No buffer of the program is scoped, -/
theorem scopedRefs_eq : (Finset.univ.filter fun b : Ref sig .tc => b.isScoped) = ∅ := by decide
/-- nor any semaphore. -/
theorem scopedSems_eq : (Finset.univ.filter fun sm : SemLoc sig => sm.isScoped .tc) = ∅ := by decide

set_option maxRecDepth 8192 in
/-- Every operation works on the device's own buffers. -/
theorem ops_sub : (ops : List (HloOp τ sig (Elt F))).Forall fun op => op.bufs ⊆ tcRefs τ sig :=
  ⟨unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., reshape_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., unary_bufs_sub .., reshape_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩

/-- The run: every buffer ends at what the line leaves in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.OutMlpReferenceIdeal.Line
-- ==== Proof.MlpReference.lean ====
/- The reference of the output projection and the MLP, read: position by position the result is the row function of the
   rows of the arguments. -/
module

public import proofs.«01_k».proof.Proof.MlpLine
public import proofs.«01_k».proof.Proof.MlpRow
public import Idealize.ShloMosaic.Lib.Pointwise
public import Idealize.ShloMosaic.Lib.StableHlo.ReadAt

@[expose] public section

set_option maxRecDepth 16384

noncomputable section

namespace Cert.OutMlpReferenceIdeal.Line

open Cert.OutMlpReferenceIdeal Cert.OutMlpReferenceIdeal.Gen Idealize.ShloMosaic Idealize.ShloMosaic.TcCoe Idealize.SL.Sem Idealize.ShloMosaic.StableHlo
open Cert.MlpRow

/-- The contents of the program's buffers. -/
abbrev Vals := Valuation τ sig (Elt Ideal)

/-- Buffer `main_v17` after the first stretch is the output projection. -/
theorem proj_at (W : Vals) (b : Fin 4) (p : Fin 4096) (l : Fin 1024) (q0 q1 q2 q3 : Fin 256 → EReal) (w : Fin 1024 → Fin 1024 → EReal)
    (h0 : ∀ k : Fin 256, (W (Proc.devRef .tc main_arg1) : FVec Ideal S4x4096x256 .f32) (ix3 b p k) = q0 k) (h1 : ∀ k : Fin 256, (W (Proc.devRef .tc main_arg2) : FVec Ideal S4x4096x256 .f32) (ix3 b p k) = q1 k)
    (h2 : ∀ k : Fin 256, (W (Proc.devRef .tc main_arg3) : FVec Ideal S4x4096x256 .f32) (ix3 b p k) = q2 k) (h3 : ∀ k : Fin 256, (W (Proc.devRef .tc main_arg4) : FVec Ideal S4x4096x256 .f32) (ix3 b p k) = q3 k)
    (hw : ∀ k o : Fin 1024, (W (Proc.devRef .tc main_arg10) : FVec Ideal S2x1024x1024 .f32) (ix3 1 k o) = w k o) :
    (after projOps W (Proc.devRef .tc main_v17) : FVec Ideal S4x4096x1024 .f32) (ix3 b p l) = proj (feats q0 q1 q2 q3) w l := by
  after_reads_at
  unfold feats4
  pointwise [h0, h1, h2, h3, hw]
  rfl

/-- Buffer `main_v10` after the first stretch is the first gate. -/
theorem gate1_at (W : Vals) (b : Fin 4) (l : Fin 1024) :
    (after projOps W (Proc.devRef .tc main_v10) : FVec Ideal S4x1x1024 .f32) (ix3 b 0 l)
      = (W (Proc.devRef .tc main_arg5) : FVec Ideal S2x4x6144 .f32) (ix3 1 b ⟨2048 + l, by omega⟩) := by
  after_reads_at

/-- Buffer `main_v11` after the first stretch is the shift. -/
theorem shift_at (W : Vals) (b : Fin 4) (l : Fin 1024) :
    (after projOps W (Proc.devRef .tc main_v11) : FVec Ideal S4x1x1024 .f32) (ix3 b 0 l)
      = (W (Proc.devRef .tc main_arg5) : FVec Ideal S2x4x6144 .f32) (ix3 1 b ⟨3072 + l, by omega⟩) := by
  after_reads_at

/-- Buffer `main_v12` after the first stretch is the scale. -/
theorem scale_at (W : Vals) (b : Fin 4) (l : Fin 1024) :
    (after projOps W (Proc.devRef .tc main_v12) : FVec Ideal S4x1x1024 .f32) (ix3 b 0 l)
      = (W (Proc.devRef .tc main_arg5) : FVec Ideal S2x4x6144 .f32) (ix3 1 b ⟨4096 + l, by omega⟩) := by
  after_reads_at

/-- Buffer `main_v13` after the first stretch is the second gate. -/
theorem gate2_at (W : Vals) (b : Fin 4) (l : Fin 1024) :
    (after projOps W (Proc.devRef .tc main_v13) : FVec Ideal S4x1x1024 .f32) (ix3 b 0 l)
      = (W (Proc.devRef .tc main_arg5) : FVec Ideal S2x4x6144 .f32) (ix3 1 b ⟨5120 + l, by omega⟩) := by
  after_reads_at

/-- Buffer `main_v35` after the second stretch is the first residual. -/
theorem mixed_at (W : Vals) (b : Fin 4) (p : Fin 4096) (l : Fin 1024) (x y g md : Fin 1024 → EReal)
    (hx : ∀ k : Fin 1024, (W (Proc.devRef .tc main_arg0) : FVec Ideal S4x4096x1024 .f32) (ix3 b p k) = x k) (hy : ∀ k : Fin 1024, (W (Proc.devRef .tc main_v17) : FVec Ideal S4x4096x1024 .f32) (ix3 b p k) = y k)
    (hg : ∀ k : Fin 1024, (W (Proc.devRef .tc main_arg7) : FVec Ideal S2x1024 .f32) (ix2 1 k) = g k) (hm : ∀ k : Fin 1024, (W (Proc.devRef .tc main_v10) : FVec Ideal S4x1x1024 .f32) (ix3 b 0 k) = md k) :
    (after mixedOps W (Proc.devRef .tc main_v35) : FVec Ideal S4x4096x1024 .f32) (ix3 b p l) = mix x y (fun k => g k * md k) l := by
  after_reads_at
  pointwise [hx, hy, hg, hm]
  unfold mix MlpRow.inv
  rw [mul_comm (md l), mul_assoc _ (g l)]

/-- Buffer `main_v56` after the third stretch is the modulated norm. -/
theorem normed_at (W : Vals) (b : Fin 4) (p : Fin 4096) (l : Fin 1024) (x g sc sh : Fin 1024 → EReal)
    (hx : ∀ k : Fin 1024, (W (Proc.devRef .tc main_v35) : FVec Ideal S4x4096x1024 .f32) (ix3 b p k) = x k) (hg : ∀ k : Fin 1024, (W (Proc.devRef .tc main_arg8) : FVec Ideal S2x1024 .f32) (ix2 1 k) = g k)
    (hc : ∀ k : Fin 1024, (W (Proc.devRef .tc main_v12) : FVec Ideal S4x1x1024 .f32) (ix3 b 0 k) = sc k) (hs : ∀ k : Fin 1024, (W (Proc.devRef .tc main_v11) : FVec Ideal S4x1x1024 .f32) (ix3 b 0 k) = sh k) :
    (after normedOps W (Proc.devRef .tc main_v56) : FVec Ideal S4x4096x1024 .f32) (ix3 b p l)
      = modn x (fun k => g k * (1 + sc k)) sh l := by
  after_reads_at
  pointwise [hx, hg, hc, hs]
  unfold modn MlpRow.inv
  rw [mul_assoc _ (g l)]

/-- Buffer `main_v64` after the fourth stretch is the MLP. -/
theorem hidden_at (W : Vals) (b : Fin 4) (p : Fin 4096) (l : Fin 1024) (h : Fin 1024 → EReal) (w1 : Fin 1024 → Fin 4096 → EReal)
    (w2 : Fin 4096 → Fin 1024 → EReal)
    (hh : ∀ k : Fin 1024, (W (Proc.devRef .tc main_v56) : FVec Ideal S4x4096x1024 .f32) (ix3 b p k) = h k)
    (h1 : ∀ (k : Fin 1024) (q : Fin 4096), (W (Proc.devRef .tc main_arg11) : FVec Ideal S2x1024x4096 .f32) (ix3 1 k q) = w1 k q)
    (h2 : ∀ (q : Fin 4096) (o : Fin 1024), (W (Proc.devRef .tc main_arg12) : FVec Ideal S2x4096x1024 .f32) (ix3 1 q o) = w2 q o) :
    (after hiddenOps W (Proc.devRef .tc main_v64) : FVec Ideal S4x4096x1024 .f32) (ix3 b p l) = mlp h w1 w2 l := by
  after_reads_at
  pointwise [hh, h1, h2]
  rfl

/-- Buffer `main_v82` after the last stretch is the second residual. -/
theorem last_at (W : Vals) (b : Fin 4) (p : Fin 4096) (l : Fin 1024) (x y g md : Fin 1024 → EReal)
    (hx : ∀ k : Fin 1024, (W (Proc.devRef .tc main_v35) : FVec Ideal S4x4096x1024 .f32) (ix3 b p k) = x k) (hy : ∀ k : Fin 1024, (W (Proc.devRef .tc main_v64) : FVec Ideal S4x4096x1024 .f32) (ix3 b p k) = y k)
    (hg : ∀ k : Fin 1024, (W (Proc.devRef .tc main_arg9) : FVec Ideal S2x1024 .f32) (ix2 1 k) = g k) (hm : ∀ k : Fin 1024, (W (Proc.devRef .tc main_v13) : FVec Ideal S4x1x1024 .f32) (ix3 b 0 k) = md k) :
    (after lastOps W (Proc.devRef .tc main_v82) : FVec Ideal S4x4096x1024 .f32) (ix3 b p l) = mix x y (fun k => g k * md k) l := by
  after_reads_at
  pointwise [hx, hy, hg, hm]
  unfold mix MlpRow.inv
  rw [mul_comm (md l), mul_assoc _ (g l)]

/-! What a stretch does not write, it keeps. -/

/-- The proj stretch keeps `main_arg0`. -/
theorem proj_keeps_arg0 (W : Vals) : after projOps W (Proc.devRef .tc main_arg0) = W (Proc.devRef .tc main_arg0) := by after_reads_simp
/-- The proj stretch keeps `main_arg7`. -/
theorem proj_keeps_arg7 (W : Vals) : after projOps W (Proc.devRef .tc main_arg7) = W (Proc.devRef .tc main_arg7) := by after_reads_simp
/-- The proj stretch keeps `main_arg8`. -/
theorem proj_keeps_arg8 (W : Vals) : after projOps W (Proc.devRef .tc main_arg8) = W (Proc.devRef .tc main_arg8) := by after_reads_simp
/-- The proj stretch keeps `main_arg9`. -/
theorem proj_keeps_arg9 (W : Vals) : after projOps W (Proc.devRef .tc main_arg9) = W (Proc.devRef .tc main_arg9) := by after_reads_simp
/-- The proj stretch keeps `main_arg11`. -/
theorem proj_keeps_arg11 (W : Vals) : after projOps W (Proc.devRef .tc main_arg11) = W (Proc.devRef .tc main_arg11) := by after_reads_simp
/-- The proj stretch keeps `main_arg12`. -/
theorem proj_keeps_arg12 (W : Vals) : after projOps W (Proc.devRef .tc main_arg12) = W (Proc.devRef .tc main_arg12) := by after_reads_simp
/-- The mixed stretch keeps `main_v11`. -/
theorem mixed_keeps_v11 (W : Vals) : after mixedOps W (Proc.devRef .tc main_v11) = W (Proc.devRef .tc main_v11) := by after_reads_simp
/-- The mixed stretch keeps `main_v12`. -/
theorem mixed_keeps_v12 (W : Vals) : after mixedOps W (Proc.devRef .tc main_v12) = W (Proc.devRef .tc main_v12) := by after_reads_simp
/-- The mixed stretch keeps `main_v13`. -/
theorem mixed_keeps_v13 (W : Vals) : after mixedOps W (Proc.devRef .tc main_v13) = W (Proc.devRef .tc main_v13) := by after_reads_simp
/-- The mixed stretch keeps `main_arg8`. -/
theorem mixed_keeps_arg8 (W : Vals) : after mixedOps W (Proc.devRef .tc main_arg8) = W (Proc.devRef .tc main_arg8) := by after_reads_simp
/-- The mixed stretch keeps `main_arg9`. -/
theorem mixed_keeps_arg9 (W : Vals) : after mixedOps W (Proc.devRef .tc main_arg9) = W (Proc.devRef .tc main_arg9) := by after_reads_simp
/-- The mixed stretch keeps `main_arg11`. -/
theorem mixed_keeps_arg11 (W : Vals) : after mixedOps W (Proc.devRef .tc main_arg11) = W (Proc.devRef .tc main_arg11) := by after_reads_simp
/-- The mixed stretch keeps `main_arg12`. -/
theorem mixed_keeps_arg12 (W : Vals) : after mixedOps W (Proc.devRef .tc main_arg12) = W (Proc.devRef .tc main_arg12) := by after_reads_simp
/-- The normed stretch keeps `main_v35`. -/
theorem normed_keeps_v35 (W : Vals) : after normedOps W (Proc.devRef .tc main_v35) = W (Proc.devRef .tc main_v35) := by after_reads_simp
/-- The normed stretch keeps `main_v13`. -/
theorem normed_keeps_v13 (W : Vals) : after normedOps W (Proc.devRef .tc main_v13) = W (Proc.devRef .tc main_v13) := by after_reads_simp
/-- The normed stretch keeps `main_arg9`. -/
theorem normed_keeps_arg9 (W : Vals) : after normedOps W (Proc.devRef .tc main_arg9) = W (Proc.devRef .tc main_arg9) := by after_reads_simp
/-- The normed stretch keeps `main_arg11`. -/
theorem normed_keeps_arg11 (W : Vals) : after normedOps W (Proc.devRef .tc main_arg11) = W (Proc.devRef .tc main_arg11) := by after_reads_simp
/-- The normed stretch keeps `main_arg12`. -/
theorem normed_keeps_arg12 (W : Vals) : after normedOps W (Proc.devRef .tc main_arg12) = W (Proc.devRef .tc main_arg12) := by after_reads_simp
/-- The hidden stretch keeps `main_v35`. -/
theorem hidden_keeps_v35 (W : Vals) : after hiddenOps W (Proc.devRef .tc main_v35) = W (Proc.devRef .tc main_v35) := by after_reads_simp
/-- The hidden stretch keeps `main_v13`. -/
theorem hidden_keeps_v13 (W : Vals) : after hiddenOps W (Proc.devRef .tc main_v13) = W (Proc.devRef .tc main_v13) := by after_reads_simp
/-- The hidden stretch keeps `main_arg9`. -/
theorem hidden_keeps_arg9 (W : Vals) : after hiddenOps W (Proc.devRef .tc main_arg9) = W (Proc.devRef .tc main_arg9) := by after_reads_simp

/-- The result buffer after the whole line, at a position: the layer's tail over the argument rows. -/
theorem result_at (W : Vals) (b : Fin 4) (p : Fin 4096) (l : Fin 1024) :
    (after ops W (Proc.devRef .tc main_v82) : FVec Ideal S4x4096x1024 .f32) (ix3 b p l)
      = tail (fun k => (W (Proc.devRef .tc main_arg0) : FVec Ideal S4x4096x1024 .f32) (ix3 b p k))
          (feats (fun k => (W (Proc.devRef .tc main_arg1) : FVec Ideal S4x4096x256 .f32) (ix3 b p k))
            (fun k => (W (Proc.devRef .tc main_arg2) : FVec Ideal S4x4096x256 .f32) (ix3 b p k))
            (fun k => (W (Proc.devRef .tc main_arg3) : FVec Ideal S4x4096x256 .f32) (ix3 b p k))
            (fun k => (W (Proc.devRef .tc main_arg4) : FVec Ideal S4x4096x256 .f32) (ix3 b p k)))
          (fun k => (W (Proc.devRef .tc main_arg5) : FVec Ideal S2x4x6144 .f32) (ix3 1 b k))
          (fun k => (W (Proc.devRef .tc main_arg7) : FVec Ideal S2x1024 .f32) (ix2 1 k))
          (fun k => (W (Proc.devRef .tc main_arg8) : FVec Ideal S2x1024 .f32) (ix2 1 k))
          (fun k => (W (Proc.devRef .tc main_arg9) : FVec Ideal S2x1024 .f32) (ix2 1 k))
          (fun k o => (W (Proc.devRef .tc main_arg10) : FVec Ideal S2x1024x1024 .f32) (ix3 1 k o))
          (fun k q => (W (Proc.devRef .tc main_arg11) : FVec Ideal S2x1024x4096 .f32) (ix3 1 k q))
          (fun q o => (W (Proc.devRef .tc main_arg12) : FVec Ideal S2x4096x1024 .f32) (ix3 1 q o)) l := by
  have e : after ops W = after lastOps (after hiddenOps (after normedOps (after mixedOps (after projOps W)))) := by
    simp only [ops, after_append]
  rw [e]
  have hm : ∀ k : Fin 1024, (after mixedOps (after projOps W) (Proc.devRef .tc main_v35) : FVec Ideal S4x4096x1024 .f32) (ix3 b p k) = _ :=
    fun k => mixed_at (after projOps W) b p k _ _ _ _ (fun k => by rw [proj_keeps_arg0])
      (fun k => proj_at W b p k _ _ _ _ _ (fun _ => rfl) (fun _ => rfl) (fun _ => rfl) (fun _ => rfl) (fun _ _ => rfl))
      (fun k => by rw [proj_keeps_arg7]) (fun k => gate1_at W b k)
  unfold tail row
  refine last_at _ b p l _ _ _ _ (fun k => ?_) (fun k => ?_) (fun k => ?_) (fun k => ?_)
  · rw [hidden_keeps_v35, normed_keeps_v35]; exact hm k
  · refine hidden_at _ b p k _ _ _ (fun k => ?_) (fun k q => ?_) (fun q o => ?_)
    · refine normed_at _ b p k _ _ _ _ hm (fun k => ?_) (fun k => ?_) (fun k => ?_)
      · rw [mixed_keeps_arg8, proj_keeps_arg8]
      · rw [mixed_keeps_v12]; exact scale_at W b k
      · rw [mixed_keeps_v11]; exact shift_at W b k
    · rw [normed_keeps_arg11, mixed_keeps_arg11, proj_keeps_arg11]
    · rw [normed_keeps_arg12, mixed_keeps_arg12, proj_keeps_arg12]
  · rw [hidden_keeps_arg9, normed_keeps_arg9, mixed_keeps_arg9, proj_keeps_arg9]
  · rw [hidden_keeps_v13, normed_keeps_v13, mixed_keeps_v13]; exact gate2_at W b k

/-- The run: the result buffer ends as the line leaves it, the arguments stand. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = after ops (launchContents m c) (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ⟨h c main_v82, (h c main_arg0).trans ?_, (h c main_arg1).trans ?_, (h c main_arg2).trans ?_, (h c main_arg3).trans ?_, (h c main_arg4).trans ?_, (h c main_arg5).trans ?_, (h c main_arg6).trans ?_, (h c main_arg7).trans ?_, (h c main_arg8).trans ?_, (h c main_arg9).trans ?_, (h c main_arg10).trans ?_, (h c main_arg11).trans ?_, (h c main_arg12).trans ?_⟩) (run m ρ)
  all_goals after_reads_simp
  all_goals rfl

end Cert.OutMlpReferenceIdeal.Line
-- ==== Proof.MlpClaim.lean ====
/- The claims about the output projection and the MLP: the reference ends with quiet semaphores, and the kernel and the
   reference end with equal results. -/
module

public import proofs.«01_k».proof.Defs
public import proofs.«01_k».proof.Proof.MlpValue
public import proofs.«01_k».proof.Proof.MlpReference

@[expose] public section

set_option maxRecDepth 16384

noncomputable section

namespace Cert.MlpClaim

open Idealize.ShloMosaic Idealize.ShloMosaic.TcCoe Idealize.SL.Sem

/-- The reference of the output projection and the MLP runs, leaves its arguments and ends with quiet semaphores. -/
theorem quiescent : Cert.quiescent_OutMlpReferenceIdeal := by
  intro m g _
  refine (θ_run _ _ _).mono (fun r h => ⟨fun c => (h c).2, ?_⟩) (Cert.OutMlpReferenceIdeal.Line.run_result m g)
  funext x
  exact ((by decide : ∀ s : SemLoc Cert.OutMlpReferenceIdeal.sig, False) x.2).elim

/-- What the reference leaves in its result buffer is the layer's tail over the contents of the argument buffers. -/
theorem reference_out (W : Cert.OutMlpReferenceIdeal.Line.Vals)
    (a0 : FVec Ideal Cert.OutMlpReferenceIdeal.S4x4096x1024 .f32) (h0 : W (Proc.devRef .tc Cert.OutMlpReferenceIdeal.main_arg0) = a0)
    (a1 : FVec Ideal Cert.OutMlpReferenceIdeal.S4x4096x256 .f32) (h1 : W (Proc.devRef .tc Cert.OutMlpReferenceIdeal.main_arg1) = a1)
    (a2 : FVec Ideal Cert.OutMlpReferenceIdeal.S4x4096x256 .f32) (h2 : W (Proc.devRef .tc Cert.OutMlpReferenceIdeal.main_arg2) = a2)
    (a3 : FVec Ideal Cert.OutMlpReferenceIdeal.S4x4096x256 .f32) (h3 : W (Proc.devRef .tc Cert.OutMlpReferenceIdeal.main_arg3) = a3)
    (a4 : FVec Ideal Cert.OutMlpReferenceIdeal.S4x4096x256 .f32) (h4 : W (Proc.devRef .tc Cert.OutMlpReferenceIdeal.main_arg4) = a4)
    (a5 : FVec Ideal Cert.OutMlpReferenceIdeal.S2x4x6144 .f32) (h5 : W (Proc.devRef .tc Cert.OutMlpReferenceIdeal.main_arg5) = a5)
    (a7 : FVec Ideal Cert.OutMlpReferenceIdeal.S2x1024 .f32) (h7 : W (Proc.devRef .tc Cert.OutMlpReferenceIdeal.main_arg7) = a7)
    (a8 : FVec Ideal Cert.OutMlpReferenceIdeal.S2x1024 .f32) (h8 : W (Proc.devRef .tc Cert.OutMlpReferenceIdeal.main_arg8) = a8)
    (a9 : FVec Ideal Cert.OutMlpReferenceIdeal.S2x1024 .f32) (h9 : W (Proc.devRef .tc Cert.OutMlpReferenceIdeal.main_arg9) = a9)
    (a10 : FVec Ideal Cert.OutMlpReferenceIdeal.S2x1024x1024 .f32) (h10 : W (Proc.devRef .tc Cert.OutMlpReferenceIdeal.main_arg10) = a10)
    (a11 : FVec Ideal Cert.OutMlpReferenceIdeal.S2x1024x4096 .f32) (h11 : W (Proc.devRef .tc Cert.OutMlpReferenceIdeal.main_arg11) = a11)
    (a12 : FVec Ideal Cert.OutMlpReferenceIdeal.S2x4096x1024 .f32) (h12 : W (Proc.devRef .tc Cert.OutMlpReferenceIdeal.main_arg12) = a12) :
    (StableHlo.after Cert.OutMlpReferenceIdeal.Line.ops W (Proc.devRef .tc Cert.OutMlpReferenceIdeal.main_v82) : FVec Ideal Cert.OutMlpReferenceIdeal.S4x4096x1024 .f32)
      = Cert.OutMlpIdeal.Block.out a0 a1 a2 a3 a4 a5 a7 a8 a9 a10 a11 a12 := by
  subst h0 h1 h2 h3 h4 h5 h7 h8 h9 h10 h11 h12
  funext i
  idx_vars i
  exact Cert.OutMlpReferenceIdeal.Line.result_at W i0 i1 i2

set_option maxHeartbeats 1000000 in
/-- The kernel and its reference, from equal arguments, end with equal results. -/
theorem algebraic : Cert.algebraic_OutMlpIdeal_OutMlpReferenceIdeal := by
  pair_intro
  · run_from Cert.OutMlpIdeal.Gen.run_main m g
  · run_from Cert.OutMlpReferenceIdeal.Line.run_result m' g'
    obtain ⟨h0, h1, h2, h3, h4, h5, h6, h7, h8, h9, h10, h11, h12⟩ := hagree c
    exact (reference_out (StableHlo.launchContents m' c) _ h0 _ h1 _ h2 _ h3 _ h4 _ h5 _ h7 _ h8 _ h9 _ h10 _ h11 _ h12).trans
      (Cert.OutMlpIdeal.Block.final m c).symm

end Cert.MlpClaim
-- ==== Proof.ModValue.lean ====
/- The array that the modulation's run leaves: every entry the product of an activated condition with a column, plus
   the bias. -/
module

public import proofs.«01_k».proof.Proof.Gen.ModulationIdeal.Frame
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.ModulationIdeal.Block

open Idealize.ShloMosaic Idealize.ShloMosaic.TcCoe Idealize.SL.Sem
open Idealize.ShloMosaic.Pipeline (Dat)
open Cert.ModulationIdeal Cert.ModulationIdeal.Gen

/-- The activation of the conditions: `x` times its sigmoid. -/
def act (x : EReal) : EReal := x * Ideal.logistic x

/-- The conditions of the eight rows: four batches, the context, and zero. -/
def cond (c : Fin 4 → Fin 1024 → EReal) (cc : Fin 1024 → EReal) (r : Fin 8) (k : Fin 1024) : EReal :=
  if h : r.val < 4 then c ⟨r.val, h⟩ k else if r.val - 4 < 1 then cc k else 0

/-- What the body stores, entry by entry. -/
theorem pay_at (v0 : FVec Ideal S8x1024 .f32) (v5 : FVec Ideal S1x1024x2048 .f32) (v9 : FVec Ideal S1x1x2048 .f32)
    (r : Fin 8) (j : Fin 2048) :
    k0_pay1 (F := Ideal) v0 v5 v9 (ix3 0 r j) = ∑ k, act (v0 (ix2 r k)) * v5 (ix3 0 k j) + v9 (ix3 0 0 j) := by
  pointwise [k0_pay1]
  rfl

/-- The contents of the program's buffers. -/
abbrev Vals := Valuation τ sig (Elt Ideal)

/-- The stacked conditions. -/
theorem cs_at (W : Vals) (r : Fin 8) (k : Fin 1024) :
    (StableHlo.after hostOps0 W (Proc.devRef .tc main_v2) : FVec Ideal S8x1024 .f32) (ix2 r k)
      = cond (fun b k => (W (Proc.devRef .tc main_arg0) : FVec Ideal S4x1024 .f32) (ix2 b k))
          (fun k => (W (Proc.devRef .tc main_arg1) : FVec Ideal S1024 .f32) (ix1 k)) r k := by
  after_reads_at
  after_reads_simp
  pointwise
  rfl

/-- The bias. -/
theorem bias_at (W : Vals) (l : Fin 2) (j : Fin 6144) :
    (StableHlo.after hostOps0 W (Proc.devRef .tc main_v3) : FVec Ideal S2x1x6144 .f32) (ix3 l 0 j)
      = (W (Proc.devRef .tc main_arg3) : FVec Ideal S2x6144 .f32) (ix2 l j) := by
  after_reads_at

variable (m : (ℓ : Loc nD τ sig) → Buf (Elt Ideal) ℓ)

/-- Which block each window reads or writes at a grid point. -/
theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- The column that a block's column `j` stands for. -/
def col (t : Fin cfg0.N) (j : Fin 2048) : Fin 6144 := ⟨(grid0.coords t 1).val * 2048 + j, by
  have h : (grid0.coords t 1).val < 3 := (grid0.coords t 1).isLt
  omega⟩

/-- Window 0: the stacked conditions. -/
theorem blk0 (c : Dev nD) (t : Fin cfg0.N) (r : Fin 8) (k : Fin 1024) :
    (iblk m c 0 t : FVec Ideal S8x1024 .f32) (ix2 r k)
      = cond (fun b k => (m ((c : Thread nD τ).loc main_arg0) : FVec Ideal S4x1024 .f32) (ix2 b k))
          (fun k => (m ((c : Thread nD τ).loc main_arg1) : FVec Ideal S1024 .f32) (ix1 k)) r k := by
  refine Eq.trans ?_ (cs_at (fun b => m (c, b)) r k)
  blk_ext [iblk, V, idx t]

/-- Window 1: the weights of the layer, a stretch of columns. -/
theorem blk1 (c : Dev nD) (t : Fin cfg0.N) (k : Fin 1024) (j : Fin 2048) :
    (iblk m c 1 t : FVec Ideal S1x1024x2048 .f32) (ix3 0 k j)
      = (m ((c : Thread nD τ).loc main_arg2) : FVec Ideal S2x1024x6144 .f32) (ix3 (grid0.coords t 0) k (col t j)) := by
  rw [← V_main_arg2 m c]
  blk_ext [iblk, col, idx t]

/-- Window 2: the bias of the layer, a stretch of columns. -/
theorem blk2 (c : Dev nD) (t : Fin cfg0.N) (j : Fin 2048) :
    (iblk m c 2 t : FVec Ideal S1x1x2048 .f32) (ix3 0 0 j)
      = (m ((c : Thread nD τ).loc main_arg3) : FVec Ideal S2x6144 .f32) (ix2 (grid0.coords t 0) (col t j)) := by
  refine Eq.trans ?_ (bias_at (fun b => m (c, b)) (grid0.coords t 0) (col t j))
  blk_ext [iblk, V, col, idx t]

/-- The modulation over the argument arrays. -/
def out (a0 : FVec Ideal S4x1024 .f32) (a1 : FVec Ideal S1024 .f32) (a2 : FVec Ideal S2x1024x6144 .f32)
    (a3 : FVec Ideal S2x6144 .f32) : FVec Ideal S2x8x6144 .f32 := fun i =>
  ∑ k, act (cond (fun b k => a0 (ix2 b k)) (fun k => a1 (ix1 k)) (i 1) k) * a2 (ix3 (i 0) k (i 2)) + a3 (ix2 (i 0) (i 2))

/-- The result array after the run is the modulation of the arguments. -/
theorem final (c : Dev nD) : (dats m 0 c).arrAt 3 cfg0.N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 3 _ (by decide +kernel) fun t hf y => ?_
  blk_simp
  rw [after0_3]
  unfold out0_3
  frame_out
  idx_vars y
  obtain rfl : y0 = 0 := Subsingleton.elim _ _
  refine (pay_at (iblk m c 0 t) (iblk m c 1 t) (iblk m c 2 t) y1 y2).trans ?_
  have he : ((View.whole main_v4).slice (win0_3.rect t)).emb (ix3 0 y1 y2)
      = (ix3 (grid0.coords t 0) y1 (col t y2) : S2x8x6144.Idx) := by blk_ext [col, idx t]
  refine Eq.trans ?_ (congrArg (out _ _ _ _) he).symm
  simp only [blk0 m c t, blk1 m c t, blk2 m c t]
  rfl

end Cert.ModulationIdeal.Block
-- ==== Proof.ModReference.lean ====
/- What the modulation's reference computes, entry by entry, and the claim of the modulation. -/
module

public import proofs.«01_k».proof.Defs
public import proofs.«01_k».proof.Proof.Gen.ModulationReferenceIdeal.Run
public import proofs.«01_k».proof.Proof.ModValue

@[expose] public section

set_option maxRecDepth 16384

noncomputable section

namespace Cert.ModulationReferenceIdeal.Line

open Idealize.ShloMosaic Idealize.ShloMosaic.TcCoe Idealize.SL.Sem
open Cert.ModulationReferenceIdeal Cert.ModulationReferenceIdeal.Gen
open Cert.ModulationIdeal.Block (act cond)

/-- The reference's stacked conditions. -/
def conds (a0 : FVec Ideal S4x1024 .f32) (a1 : FVec Ideal S1024 .f32) : FVec Ideal S8x1024 .f32 :=
  concatenate S8x1024 0 [⟨S4x1024, a0⟩, ⟨S1x1024, broadcastInDim S1x1024 ![1] bcast_S1024_S1x1024_1 a1⟩,
    ⟨S3x1024, broadcastInDim S3x1024 ![] bcast_S_S3x1024 (constant S_ FTy.f32 0#32)⟩]
    concatenates_S4x1024_S1x1024_S3x1024_S8x1024_d0

/-- The stacked conditions, entry by entry. -/
theorem conds_at (a0 : FVec Ideal S4x1024 .f32) (a1 : FVec Ideal S1024 .f32) (r : Fin 8) (k : Fin 1024) :
    conds a0 a1 (ix2 r k) = cond (fun b k => a0 (ix2 b k)) (fun k => a1 (ix1 k)) r k := by
  pointwise [conds]
  rfl

/-- The reference's activation of an array of conditions. -/
def acts (z : FVec Ideal S8x1024 .f32) : FVec Ideal S8x1024 .f32 :=
  mulf z (Host.divf (broadcastInDim S8x1024 ![] bcast_S_S8x1024 (constant S_ FTy.f32 1065353216#32))
    (addf (broadcastInDim S8x1024 ![] bcast_S_S8x1024 (constant S_ FTy.f32 1065353216#32)) (Host.exp (Host.negf z))))

/-- The activation, entry by entry. -/
theorem acts_at (z : FVec Ideal S8x1024 .f32) (r : Fin 8) (k : Fin 1024) : acts z (ix2 r k) = act (z (ix2 r k)) := by
  pointwise [acts]
  rfl

/-- One layer's plane of the result, from the layer's weights and bias. -/
def plane (z : FVec Ideal S8x1024 .f32) (w : FVec Ideal S1x1024x6144 .f32) (b : FVec Ideal S1x6144 .f32) :
    FVec Ideal S1x8x6144 .f32 :=
  broadcastInDim S1x8x6144 ![1, 2] bcast_S8x6144_S1x8x6144_1_2
    (addf (Host.dotGeneral dot_S8x1024_S1024x6144_S8x6144_1_0_0_1_n_n none z (shapeCast S1024x6144 w shapeCasts_S1x1024x6144_S1024x6144))
      (broadcastInDim S8x6144 ![0, 1] bcast_S1x6144_S8x6144_0_1 (broadcastInDim S1x6144 ![1] bcast_S6144_S1x6144_1
        (shapeCast S6144 b shapeCasts_S1x6144_S6144))))

/-- A plane, entry by entry. -/
theorem plane_at (z : FVec Ideal S8x1024 .f32) (w : FVec Ideal S1x1024x6144 .f32) (b : FVec Ideal S1x6144 .f32)
    (r : Fin 8) (j : Fin 6144) :
    plane z w b (ix3 0 r j) = ∑ k, z (ix2 r k) * w (ix3 0 k j) + b (ix2 0 j) := by
  pointwise [plane]

/-- The reference's result. -/
def result (a0 : FVec Ideal S4x1024 .f32) (a1 : FVec Ideal S1024 .f32) (a2 : FVec Ideal S2x1024x6144 .f32)
    (a3 : FVec Ideal S2x6144 .f32) : FVec Ideal S2x8x6144 .f32 :=
  concatenate S2x8x6144 0
    [⟨S1x8x6144, plane (acts (conds a0 a1)) (extractStridedSlice S1x1024x6144 ![0, 0, 0] a2 slices_S2x1024x6144_S1x1024x6144_0_0_0)
        (extractStridedSlice S1x6144 ![0, 0] a3 slices_S2x6144_S1x6144_0_0)⟩,
      ⟨S1x8x6144, plane (acts (conds a0 a1)) (extractStridedSlice S1x1024x6144 ![1, 0, 0] a2 slices_S2x1024x6144_S1x1024x6144_1_0_0)
        (extractStridedSlice S1x6144 ![1, 0] a3 slices_S2x6144_S1x6144_1_0)⟩]
    concatenates_S1x8x6144_S1x8x6144_S2x8x6144_d0

/-- The reference's result is the modulation of the arguments. -/
theorem result_eq (a0 : FVec Ideal S4x1024 .f32) (a1 : FVec Ideal S1024 .f32) (a2 : FVec Ideal S2x1024x6144 .f32)
    (a3 : FVec Ideal S2x6144 .f32) : result a0 a1 a2 a3 = Cert.ModulationIdeal.Block.out a0 a1 a2 a3 := by
  funext i
  idx_vars i
  unfold Cert.ModulationIdeal.Block.out
  match i0 with
  | 0 =>
    pointwise [result, plane_at, acts_at, conds_at]
  | 1 =>
    pointwise [result, plane_at, acts_at, conds_at]

end Cert.ModulationReferenceIdeal.Line

namespace Cert.ModClaim

open Idealize.ShloMosaic Idealize.ShloMosaic.TcCoe Idealize.SL.Sem

/-- The reference runs to its end, with its arguments as they were and every semaphore at zero. -/
theorem quiescent : Cert.quiescent_ModulationReferenceIdeal := by
  intro m g _
  refine (θ_run _ _ _).mono (fun r h => ⟨fun c => (h c).2, ?_⟩) (Cert.ModulationReferenceIdeal.Value.run m g)
  funext x
  exact ((by decide : ∀ s : SemLoc Cert.ModulationReferenceIdeal.sig, False) x.2).elim

open Cert.ModulationReferenceIdeal in
/-- The reference's result over arrays equal to the kernel's arguments is the modulation of these. -/
theorem reference_out (b0 a0 : FVec Ideal S4x1024 .f32) (h0 : b0 = a0) (b1 a1 : FVec Ideal S1024 .f32) (h1 : b1 = a1)
    (b2 a2 : FVec Ideal S2x1024x6144 .f32) (h2 : b2 = a2) (b3 a3 : FVec Ideal S2x6144 .f32) (h3 : b3 = a3) :
    Line.result b0 b1 b2 b3 = Cert.ModulationIdeal.Block.out a0 a1 a2 a3 := by
  subst h0 h1 h2 h3
  exact Line.result_eq _ _ _ _

set_option maxHeartbeats 200000 in
/-- The kernel and its reference, from equal arguments, end with equal results. -/
theorem algebraic : Cert.algebraic_ModulationIdeal_ModulationReferenceIdeal := by
  pair_intro
  · run_from Cert.ModulationIdeal.Gen.run_main m g
  · run_from Cert.ModulationReferenceIdeal.Value.run m' g'
    obtain ⟨h0, h1, h2, h3⟩ := hagree c
    exact (reference_out _ _ rfl _ _ rfl _ _ rfl _ _ h3).trans (Cert.ModulationIdeal.Block.final m c).symm

end Cert.ModClaim
-- ==== Proof.InProjRun.lean ====
/- The run of the input projection's body: the stores it makes into each output, found by executing it once on
   whole staging buffers with symbolic contents. -/
module

public import proofs.«01_k».proof.Proof.Gen.InProjIdeal.Frame.Runs

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x1024x1024 .f32) (harg2 : arg2.IsWhole) (arg3 : Memref sig .tc .vmem S1x16x1024 .f32)
  (harg3 : arg3.IsWhole) (arg4 : Memref sig .tc .vmem S1x16x1024 .f32) (harg4 : arg4.IsWhole) (arg5 : Memref sig .tc .vmem S1x1x6x1024 .f32)
  (harg5 : arg5.IsWhole) (arg6 : Memref sig .tc .vmem S2x1024 .f32) (harg6 : arg6.IsWhole) (arg7 : Memref sig .tc .vmem S1x1024x768 .bf16)
  (harg7 : arg7.IsWhole) (arg8 : Memref sig .tc .vmem S1x1024x512 .bf16) (harg8 : arg8.IsWhole) (arg9 : Memref sig .tc .vmem S1x1024x512 .bf16)
  (harg9 : arg9.IsWhole) (arg10 : Memref sig .tc .vmem S1x1024x768 .bf16) (harg10 : arg10.IsWhole) (arg11 : Memref sig .tc .vmem S2x256 .f32)
  (harg11 : arg11.IsWhole) (arg12 : Memref sig .tc .vmem S1x256x1024 .bf16) (harg12 : arg12.IsWhole) (arg13 : Memref sig .tc .vmem S2x128 .f32)
  (harg13 : arg13.IsWhole) (arg14 : Memref sig .tc .vmem S1x128x1024 .bf16) (harg14 : arg14.IsWhole) (arg15 : Memref sig .tc .vmem S1024x128 .f32)
  (harg15 : arg15.IsWhole) (arg16 : Memref sig .tc .vmem S1024x128 .f32) (harg16 : arg16.IsWhole) (arg17 : Memref sig .tc .vmem S1024x128 .f32)
  (harg17 : arg17.IsWhole) (arg18 : Memref sig .tc .vmem S1x3x256 .f32) (harg18 : arg18.IsWhole) (arg19 : Memref sig .tc .vmem S1x31x256 .f32)
  (harg19 : arg19.IsWhole) (arg20 : Memref sig .tc .vmem S2x256 .f32) (harg20 : arg20.IsWhole) (arg21 : Memref sig .tc .vmem S2x256 .f32)
  (harg21 : arg21.IsWhole) (arg22 : Memref sig .tc .vmem S2x256 .f32) (harg22 : arg22.IsWhole) (arg23 : Memref sig .tc .vmem S1x256x256 .bf16)
  (harg23 : arg23.IsWhole) (arg24 : Memref sig .tc .vmem S1x1024x512 .bf16) (harg24 : arg24.IsWhole) (arg25 : Memref sig .tc .vmem S1x1024x512 .bf16)
  (harg25 : arg25.IsWhole) (arg26 : Memref sig .tc .vmem S1x1024x512 .bf16) (harg26 : arg26.IsWhole) (arg27 : Memref sig .tc .vmem S1x1024x512 .bf16)
  (harg27 : arg27.IsWhole) (arg28 : Memref sig .tc .vmem S1x1024x256 .bf16) (harg28 : arg28.IsWhole) (arg29 : Memref sig .tc .vmem S1x1024x256 .bf16)
  (harg29 : arg29.IsWhole) (arg30 : Memref sig .tc .vmem S1x1024x256 .bf16) (harg30 : arg30.IsWhole) (arg31 : Memref sig .tc .vmem S2x544x1024 .bf16)
  (harg31 : arg31.IsWhole) (arg32 : Memref sig .tc .vmem S2x544x256 .f32) (harg32 : arg32.IsWhole) (arg33 : Memref sig .tc .vmem S2x544x256 .f32)
  (harg33 : arg33.IsWhole) (arg34 : Memref sig .tc .vmem S2x8x536x256 .f32) (harg34 : arg34.IsWhole) (arg35 : Memref sig .tc .vmem S2x512x256 .f32)
  (harg35 : arg35.IsWhole)
  (x0 : Vec F S1x1024x1024 .f32) (x1 : Vec F S1x16x1024 .f32) (x2 : Vec F S1x16x1024 .f32) (x3 : Vec F S1x1x6x1024 .f32)
  (x4 : Vec F S2x1024 .f32) (x5 : Vec F S1x1024x768 .bf16) (x6 : Vec F S1x1024x512 .bf16) (x7 : Vec F S1x1024x512 .bf16)
  (x8 : Vec F S1x1024x768 .bf16) (x9 : Vec F S2x256 .f32) (x10 : Vec F S1x256x1024 .bf16) (x11 : Vec F S2x128 .f32)
  (x12 : Vec F S1x128x1024 .bf16) (x13 : Vec F S1024x128 .f32) (x14 : Vec F S1024x128 .f32) (x15 : Vec F S1024x128 .f32)
  (x16 : Vec F S1x3x256 .f32) (x17 : Vec F S1x31x256 .f32) (x18 : Vec F S2x256 .f32) (x19 : Vec F S2x256 .f32) (x20 : Vec F S2x256 .f32)
  (x21 : Vec F S1x256x256 .bf16)

-- the term of the run is long, and the default budget ends while it is stored
set_option maxHeartbeats 40000000 in
/-- The body on whole buffers: the inputs hold `x0` to `x21`, the outputs and the scratch buffers anything. It runs to its
    end, the inputs are as they were, and each output and each scratch buffer is its old contents with a list of stores made
    (`L22` to `L28` for the outputs, `S0` to `S4` for the scratch buffers, the last store first). -/
def run :
    Σ' (L22 : List (View.Piece (Elt F) S1x1024x512 .bf16)), Σ' (L23 : List (View.Piece (Elt F) S1x1024x512 .bf16)), Σ' (L24 : List (View.Piece (Elt F) S1x1024x512 .bf16)), Σ' (L25 : List (View.Piece (Elt F) S1x1024x512 .bf16)), Σ' (L26 : List (View.Piece (Elt F) S1x1024x256 .bf16)), Σ' (L27 : List (View.Piece (Elt F) S1x1024x256 .bf16)), Σ' (L28 : List (View.Piece (Elt F) S1x1024x256 .bf16)), Σ' (S0 : List (View.Piece (Elt F) S2x544x1024 .bf16)), Σ' (S1 : List (View.Piece (Elt F) S2x544x256 .f32)), Σ' (S2 : List (View.Piece (Elt F) S2x544x256 .f32)), Σ' (S3 : List (View.Piece (Elt F) S2x8x536x256 .f32)), { S4 : List (View.Piece (Elt F) S2x512x256 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare x14
          ∗ owns (c : Thread nD τ) arg17 fullShare x15
          ∗ owns (c : Thread nD τ) arg18 fullShare x16
          ∗ owns (c : Thread nD τ) arg19 fullShare x17
          ∗ owns (c : Thread nD τ) arg20 fullShare x18
          ∗ owns (c : Thread nD τ) arg21 fullShare x19
          ∗ owns (c : Thread nD τ) arg22 fullShare x20
          ∗ owns (c : Thread nD τ) arg23 fullShare x21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
            ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare x14
          ∗ owns (c : Thread nD τ) arg17 fullShare x15
          ∗ owns (c : Thread nD τ) arg18 fullShare x16
          ∗ owns (c : Thread nD τ) arg19 fullShare x17
          ∗ owns (c : Thread nD τ) arg20 fullShare x18
          ∗ owns (c : Thread nD τ) arg21 fullShare x19
          ∗ owns (c : Thread nD τ) arg22 fullShare x20
          ∗ owns (c : Thread nD τ) arg23 fullShare x21 ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f S0) ∗ (∃ f, arg32.view.loc (c : Thread nD τ) ↦[arg32.view.set]{fullShare} arg32.view.writes (Elt F) f S1) ∗ (∃ f, arg33.view.loc (c : Thread nD τ) ↦[arg33.view.set]{fullShare} arg33.view.writes (Elt F) f S2) ∗ (∃ f, arg34.view.loc (c : Thread nD τ) ↦[arg34.view.set]{fullShare} arg34.view.writes (Elt F) f S3) ∗ (∃ f, arg35.view.loc (c : Thread nD τ) ↦[arg35.view.set]{fullShare} arg35.view.writes (Elt F) f S4)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, ?_, ?_, ?_, ?_, ?_, ?_, ?_, ?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [HS0]; · iexists _; iexact HS0
    isplitl [HS1]; · iexists _; iexact HS1
    isplitl [HS2]; · iexists _; iexact HS2
    isplitl [HS3]; · iexists _; iexact HS3
    iexists _; iexact HS4

end Cert.InProjIdeal.Body

end
-- ==== Proof.InProjFrame.lean ====
/- The frame of the input projection: what its run leaves in each output block, the pipeline's proof data, and the whole
   run of the program. -/
module

public import proofs.«01_k».proof.Proof.InProjRun
public import Idealize.ShloMosaic.Lib.Claim

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The body's run at point `t`, on the point's staging buffers and input blocks. -/
def runAt :=
  run (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    (ms0_25 t) (hs0_25 t) (ms0_26 t) (hs0_26 t) (ms0_27 t) (hs0_27 t) (ms0_28 t) (hs0_28 t) scM0_0
    (Memref.isWhole_whole _) scM0_1 (Memref.isWhole_whole _) scM0_2 (Memref.isWhole_whole _) scM0_3
    (Memref.isWhole_whole _) scM0_4 (Memref.isWhole_whole _) (iblk m c 0 t) (iblk m c 1 t) (iblk m c 2 t)
    (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t)

/-- The stores into output 22 fill its block. -/
theorem cover22 (y : S1x1024x512.Idx) : ∃ pc ∈ (runAt m c t).1, y ∈ pc.1.set :=
  View.cover_of_tiledL (runAt m c t).1 S1x512x256.size (by sl_kernel_rfl) y

/-- What the run leaves in output 22's block at point `t`. -/
def block22 : Vec F S1x1024x512 .bf16 :=
  VO0_22.read (Elt F) (VO0_22.writes (Elt F) VO0_22.junk (runAt m c t).1)

/-- The stores into output 23 fill its block. -/
theorem cover23 (y : S1x1024x512.Idx) : ∃ pc ∈ (runAt m c t).2.1, y ∈ pc.1.set :=
  View.cover_of_tiledL (runAt m c t).2.1 S1x512x128.size (by sl_kernel_rfl) y

/-- What the run leaves in output 23's block at point `t`. -/
def block23 : Vec F S1x1024x512 .bf16 :=
  VO0_23.read (Elt F) (VO0_23.writes (Elt F) VO0_23.junk (runAt m c t).2.1)

/-- The stores into output 24 fill its block. -/
theorem cover24 (y : S1x1024x512.Idx) : ∃ pc ∈ (runAt m c t).2.2.1, y ∈ pc.1.set :=
  View.cover_of_tiledL (runAt m c t).2.2.1 S1x512x128.size (by sl_kernel_rfl) y

/-- What the run leaves in output 24's block at point `t`. -/
def block24 : Vec F S1x1024x512 .bf16 :=
  VO0_24.read (Elt F) (VO0_24.writes (Elt F) VO0_24.junk (runAt m c t).2.2.1)

/-- The stores into output 25 fill its block. -/
theorem cover25 (y : S1x1024x512.Idx) : ∃ pc ∈ (runAt m c t).2.2.2.1, y ∈ pc.1.set :=
  View.cover_of_tiledL (runAt m c t).2.2.2.1 S1x512x128.size (by sl_kernel_rfl) y

/-- What the run leaves in output 25's block at point `t`. -/
def block25 : Vec F S1x1024x512 .bf16 :=
  VO0_25.read (Elt F) (VO0_25.writes (Elt F) VO0_25.junk (runAt m c t).2.2.2.1)

/-- The stores into output 26 fill its block. -/
theorem cover26 (y : S1x1024x256.Idx) : ∃ pc ∈ (runAt m c t).2.2.2.2.1, y ∈ pc.1.set :=
  View.cover_of_tiledL (runAt m c t).2.2.2.2.1 S1x512x256.size (by sl_kernel_rfl) y

/-- What the run leaves in output 26's block at point `t`. -/
def block26 : Vec F S1x1024x256 .bf16 :=
  VO0_26.read (Elt F) (VO0_26.writes (Elt F) VO0_26.junk (runAt m c t).2.2.2.2.1)

/-- The stores into output 27 fill its block. -/
theorem cover27 (y : S1x1024x256.Idx) : ∃ pc ∈ (runAt m c t).2.2.2.2.2.1, y ∈ pc.1.set :=
  View.cover_of_tiledL (runAt m c t).2.2.2.2.2.1 S1x512x256.size (by sl_kernel_rfl) y

/-- What the run leaves in output 27's block at point `t`. -/
def block27 : Vec F S1x1024x256 .bf16 :=
  VO0_27.read (Elt F) (VO0_27.writes (Elt F) VO0_27.junk (runAt m c t).2.2.2.2.2.1)

/-- The stores into output 28 fill its block. -/
theorem cover28 (y : S1x1024x256.Idx) : ∃ pc ∈ (runAt m c t).2.2.2.2.2.2.1, y ∈ pc.1.set :=
  View.cover_of_tiledL (runAt m c t).2.2.2.2.2.2.1 S1x512x256.size (by sl_kernel_rfl) y

/-- What the run leaves in output 28's block at point `t`. -/
def block28 : Vec F S1x1024x256 .bf16 :=
  VO0_28.read (Elt F) (VO0_28.writes (Elt F) VO0_28.junk (runAt m c t).2.2.2.2.2.2.1)

/-- The pipeline's proof data: each input's staging buffer at its block after every point, each output's at what the run
    leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => block22 m c t
    | ⟨23, _⟩ => block23 m c t
    | ⟨24, _⟩ => block24 m c t
    | ⟨25, _⟩ => block25 m c t
    | ⟨26, _⟩ => block26 m c t
    | ⟨27, _⟩ => block27 m c t
    | ⟨28, _⟩ => block28 m c t
    | ⟨_ + 29, h⟩ => absurd h (Nat.not_lt.2 (Nat.le_add_left _ _))
  Φ _ := Pipeline.ΦA spec0 c
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = iblk m c 15 t := by dsimp only [dats]
theorem after16 : (dats m 0 c).after 16 t = iblk m c 16 t := by dsimp only [dats]
theorem after17 : (dats m 0 c).after 17 t = iblk m c 17 t := by dsimp only [dats]
theorem after18 : (dats m 0 c).after 18 t = iblk m c 18 t := by dsimp only [dats]
theorem after19 : (dats m 0 c).after 19 t = iblk m c 19 t := by dsimp only [dats]
theorem after20 : (dats m 0 c).after 20 t = iblk m c 20 t := by dsimp only [dats]
theorem after21 : (dats m 0 c).after 21 t = iblk m c 21 t := by dsimp only [dats]
theorem after22 : (dats m 0 c).after 22 t = block22 m c t := by dsimp only [dats]
theorem after23 : (dats m 0 c).after 23 t = block23 m c t := by dsimp only [dats]
theorem after24 : (dats m 0 c).after 24 t = block24 m c t := by dsimp only [dats]
theorem after25 : (dats m 0 c).after 25 t = block25 m c t := by dsimp only [dats]
theorem after26 : (dats m 0 c).after 26 t = block26 m c t := by dsimp only [dats]
theorem after27 : (dats m 0 c).after 27 t = block27 m c t := by dsimp only [dats]
theorem after28 : (dats m 0 c).after 28 t = block28 m c t := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d
theorem before10 (d) : (dats m 0 c).before 10 t d = iblk m c 10 t :=
  before0_10_of m (dats m 0 c) (A_eq m c 10) (after10 m c) t d
theorem before11 (d) : (dats m 0 c).before 11 t d = iblk m c 11 t :=
  before0_11_of m (dats m 0 c) (A_eq m c 11) (after11 m c) t d
theorem before12 (d) : (dats m 0 c).before 12 t d = iblk m c 12 t :=
  before0_12_of m (dats m 0 c) (A_eq m c 12) (after12 m c) t d
theorem before13 (d) : (dats m 0 c).before 13 t d = iblk m c 13 t :=
  before0_13_of m (dats m 0 c) (A_eq m c 13) (after13 m c) t d
theorem before14 (d) : (dats m 0 c).before 14 t d = iblk m c 14 t :=
  before0_14_of m (dats m 0 c) (A_eq m c 14) (after14 m c) t d
theorem before15 (d) : (dats m 0 c).before 15 t d = iblk m c 15 t :=
  before0_15_of m (dats m 0 c) (A_eq m c 15) (after15 m c) t d
theorem before16 (d) : (dats m 0 c).before 16 t d = iblk m c 16 t :=
  before0_16_of m (dats m 0 c) (A_eq m c 16) (after16 m c) t d
theorem before17 (d) : (dats m 0 c).before 17 t d = iblk m c 17 t :=
  before0_17_of m (dats m 0 c) (A_eq m c 17) (after17 m c) t d
theorem before18 (d) : (dats m 0 c).before 18 t d = iblk m c 18 t :=
  before0_18_of m (dats m 0 c) (A_eq m c 18) (after18 m c) t d
theorem before19 (d) : (dats m 0 c).before 19 t d = iblk m c 19 t :=
  before0_19_of m (dats m 0 c) (A_eq m c 19) (after19 m c) t d
theorem before20 (d) : (dats m 0 c).before 20 t d = iblk m c 20 t :=
  before0_20_of m (dats m 0 c) (A_eq m c 20) (after20 m c) t d
theorem before21 (d) : (dats m 0 c).before 21 t d = iblk m c 21 t :=
  before0_21_of m (dats m 0 c) (A_eq m c 21) (after21 m c) t d

/-- What the body is called with at point `t`. -/
def pre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- What the body returns at point `t`. -/
def post : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 6400000 in
/-- The body at any point: the run on the point's buffers, between the two assertions above. -/
theorem sound : pre m c t ⊢ wp frame (wpE (defs₀ (F := F)) Variants.none c none) Set.univ (bodyAt0 t) (fun _ => post m c t) := by
  unfold pre post bodyAt0
  simp only [before0, before1, before2, before3, before4, before5, before6, before7, before8, before9, before10, before11, before12, before13, before14, before15, before16, before17, before18, before19, before20, before21]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((runAt m c t).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, ⟨%e26, H26⟩, ⟨%e27, H27⟩, ⟨%e28, H28⟩, ⟨%f0, HS0⟩, ⟨%f1, HS1⟩, ⟨%f2, HS2⟩, ⟨%f3, HS3⟩, ⟨%f4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_of_cover _ _ _ _ _ (cover22 m c t)
  isplitl [H23]
  · unfold owns; iexists _; isplitr
    swap; · iexact H23
    ipureintro; exact View.read_writes_of_cover _ _ _ _ _ (cover23 m c t)
  isplitl [H24]
  · unfold owns; iexists _; isplitr
    swap; · iexact H24
    ipureintro; exact View.read_writes_of_cover _ _ _ _ _ (cover24 m c t)
  isplitl [H25]
  · unfold owns; iexists _; isplitr
    swap; · iexact H25
    ipureintro; exact View.read_writes_of_cover _ _ _ _ _ (cover25 m c t)
  isplitl [H26]
  · unfold owns; iexists _; isplitr
    swap; · iexact H26
    ipureintro; exact View.read_writes_of_cover _ _ _ _ _ (cover26 m c t)
  isplitl [H27]
  · unfold owns; iexists _; isplitr
    swap; · iexact H27
    ipureintro; exact View.read_writes_of_cover _ _ _ _ _ (cover27 m c t)
  unfold owns; iexists _; isplitr
  swap; · iexact H28
  ipureintro; exact View.read_writes_of_cover _ _ _ _ _ (cover28 m c t)

/-- The body table's row at a point is the body on the point's buffers. -/
theorem defs_row : defs₀ (F := F) .tc cfg0.body (cfg0.bodyArgs t (cfg0.slots t)) = bodyAt0 t := by
  unfold defs₀; rw [Defs.onTc_tc]

set_option maxHeartbeats 6400000 in
/-- The pipeline's obligation on the body, at every point. -/
theorem obligation : BodyObligation (dats (F := F) m 0 c) (defs₀ (F := F)) Variants.none () Set.univ := fun t => by
  rw [bigSep_W0, bigSep_W0, defs_row]
  exact triple_restated (sound m c t) rfl .rfl fun _ => .rfl

set_option backward.isDefEq.respectTransparency.types false in
/-- From any memory with counters at zero the program ends, with every array at what the proof data say and every counter at
    zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The program ends with every argument as it found it. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) ((θ_run defs _ _).mono (fun _ h => h.1) (run_main m ρ))

/-- The frame: the program ends, with every argument as it found it and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main m ρ))

end Cert.InProjIdeal.Body

end
-- ==== Proof.InProjBlock.lean ====
/- What the input projection's body stores for the window mixer, entry by entry: a modulated norm of a row against the
   columns of the projection. -/
module

public import proofs.«01_k».proof.Proof.Gen.InProjIdeal.Skeleton
public import proofs.«01_k».proof.Proof.MlpRow
public import Idealize.ShloMosaic.Lib.Pointwise

@[expose] public section

set_option maxRecDepth 16384

noncomputable section

namespace Cert.InProjIdeal.Block

open Idealize.ShloMosaic Idealize.ShloMosaic.TcCoe Idealize.SL.Sem
open Cert.InProjIdeal Cert.InProjIdeal.Gen
open Cert.MlpRow

/-- The first sub-block's modulated rows. -/
theorem rows0_at (v0 v2 : FVec Ideal S1x1x1x1024 .f32) (v4 : FVec Ideal S1x1024 .f32) (x : FVec Ideal S1x512x1024 .f32)
    (r : Fin 512) (l : Fin 1024) :
    k0_pay6 (F := Ideal) (k0_pay2 v0) (k0_pay3 v2 v4) x (ix3 0 r l)
      = modn (fun k => x (ix3 0 r k)) (fun k => v4 (ix2 0 k) * (1 + v2 (ix4 0 0 0 k))) (fun k => v0 (ix4 0 0 0 k)) l := by
  pointwise [k0_pay6, k0_pay2, k0_pay3]
  rfl

/-- The second sub-block's modulated rows. -/
theorem rows1_at (v0 v2 : FVec Ideal S1x1x1x1024 .f32) (v4 : FVec Ideal S1x1024 .f32) (x : FVec Ideal S1x512x1024 .f32)
    (r : Fin 512) (l : Fin 1024) :
    k0_pay73 (F := Ideal) (k0_pay2 v0) (k0_pay3 v2 v4) (k0_pay70 x) (k0_pay71 x) k0_pay72 (ix3 0 r l)
      = modn (fun k => x (ix3 0 r k)) (fun k => v4 (ix2 0 k) * (1 + v2 (ix4 0 0 0 k))) (fun k => v0 (ix4 0 0 0 k)) l := by
  pointwise [k0_pay73, k0_pay70, k0_pay71, k0_pay72, k0_pay2, k0_pay3]
  rfl

/-- The first sub-block's projection. -/
theorem dot0_at (h : FVec Ideal S1x512x1024 .bf16) (w : FVec Ideal S1x1024x768 .bf16) (r : Fin 512) (j : Fin 768) :
    k0_pay12 (F := Ideal) h w (ix2 r j) = ∑ k, h (ix3 0 r k) * w (ix3 0 k j) := by
  pointwise [k0_pay12, k0_pay9]

/-- The second sub-block's projection. -/
theorem dot1_at (h : FVec Ideal S1x512x1024 .bf16) (w : FVec Ideal S1x1024x768 .bf16) (r : Fin 512) (j : Fin 768) :
    k0_pay80 (F := Ideal) (k0_pay76 h) w (ix2 r j) = ∑ k, h (ix3 0 r k) * w (ix3 0 k j) := by
  pointwise [k0_pay80, k0_pay76]

/-- The queries of the first sub-block: the projection's first 256 columns. -/
theorem q0_at (u : FVec Ideal S512x768 .f32) (r : Fin 512) (j : Fin 256) :
    k0_pay43 (F := Ideal) (k0_pay42 u) (ix3 0 r j) = u (ix2 r ⟨j, by omega⟩) := by
  pointwise [k0_pay43, k0_pay42]

/-- The queries of the second sub-block. -/
theorem q1_at (u : FVec Ideal S512x768 .f32) (r : Fin 512) (j : Fin 256) :
    k0_pay113 (F := Ideal) u (ix3 0 r j) = u (ix2 r ⟨j, by omega⟩) := by
  pointwise [k0_pay113]

/-- The keys of the first sub-block: the next 256 columns. -/
theorem k0_at (u : FVec Ideal S512x768 .f32) (r : Fin 512) (j : Fin 256) :
    k0_pay44 (F := Ideal) u (ix3 0 r j) = u (ix2 r ⟨256 + j, by omega⟩) := by
  pointwise [k0_pay44]

/-- The keys of the second sub-block. -/
theorem k1_at (u : FVec Ideal S512x768 .f32) (r : Fin 512) (j : Fin 256) :
    k0_pay115 (F := Ideal) (k0_pay114 u) (ix3 0 r j) = u (ix2 r ⟨256 + j, by omega⟩) := by
  pointwise [k0_pay115, k0_pay114]

/-- The values of the first sub-block: the last 256 columns. -/
theorem v0_at (u : FVec Ideal S512x768 .f32) (r : Fin 512) (j : Fin 256) :
    k0_pay45 (F := Ideal) u (ix3 0 r j) = u (ix2 r ⟨512 + j, by omega⟩) := by
  pointwise [k0_pay45]

/-- The values of the second sub-block. -/
theorem v1_at (u : FVec Ideal S512x768 .f32) (r : Fin 512) (j : Fin 256) :
    k0_pay116 (F := Ideal) u (ix3 0 r j) = u (ix2 r ⟨512 + j, by omega⟩) := by
  pointwise [k0_pay116]

/-- A stretch of 256 columns of the projection, from column `o`, over the argument arrays: position `(b, p)`'s modulated
    norm (shift from modulation value 0, scale from 1024) against the layer's weight. -/
def out (o : Fin 2209) (x : FVec Ideal S4x4096x1024 .f32) (md : FVec Ideal S2x4x6144 .f32) (g : FVec Ideal S2x1024 .f32)
    (w : FVec Ideal S2x1024x2464 .f32) : FVec Ideal S4x4096x256 .bf16 := fun i =>
  ∑ k : Fin 1024, modn (fun k => x (ix3 (i 0) (i 1) k))
    (fun k => g (ix2 1 k) * (1 + md (ix3 1 (i 0) ⟨1024 + k, by omega⟩))) (fun k => md (ix3 1 (i 0) ⟨k, by omega⟩)) k
      * w (ix3 1 k ⟨o + (i 2).val, by have h : (i 2).val < 256 := (i 2).isLt; omega⟩)

end Cert.InProjIdeal.Block
-- ==== Proof.InProjHost.lean ====
/- The blocks that the input projection's body reads for the window mixer, entry by entry, from the arguments. -/
module

public import proofs.«01_k».proof.Proof.Gen.InProjIdeal.Frame.Runs
public import proofs.«01_k».proof.Proof.InProjBlock
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.InProjIdeal.Block

open Idealize.ShloMosaic Idealize.ShloMosaic.TcCoe Idealize.SL.Sem
open Cert.InProjIdeal Cert.InProjIdeal.Gen

/-- The contents of the program's buffers. -/
abbrev Vals := Valuation τ sig (Elt Ideal)

/-- The modulation operand: batches 0 to 3 of the padded, stacked modulation are the argument's rows. -/
theorem mod_at (W : Vals) (b : Fin 4) (j : Fin 6) (k : Fin 1024) :
    (StableHlo.after hostOps0 W (Proc.devRef .tc main_v49) : FVec Ideal S2x8x6x1024 .f32) (ix4 1 ⟨b, by omega⟩ j k)
      = (W (Proc.devRef .tc main_arg1) : FVec Ideal S2x4x6144 .f32) (ix3 1 b ⟨j * 1024 + k, by omega⟩) := by
  after_reads_at
  after_reads_simp

/-- The window mixer's columns of the projection's weight. -/
theorem w_at (W : Vals) (k : Fin 1024) (j : Fin 768) :
    (StableHlo.after hostOps0 W (Proc.devRef .tc main_v39) : FVec Ideal S2x1024x768 .bf16) (ix3 1 k j)
      = (W (Proc.devRef .tc main_arg6) : FVec Ideal S2x1024x2464 .f32) (ix3 1 k ⟨1696 + j, by omega⟩) := by
  after_reads_at

variable (m : (ℓ : Loc nD τ sig) → Buf (Elt Ideal) ℓ)

/-- Which block each window reads or writes at a grid point. -/
theorem idx : ∀ t : Fin cfg0.N, win0_0.index t = ![(grid0.coords t 0).val, (grid0.coords t 1).val, 0]
    ∧ win0_3.index t = ![1, (grid0.coords t 0).val, 0, 0]
    ∧ win0_4.index t = ![0, 0] ∧ win0_8.index t = ![1, 0, 0]
    ∧ win0_26.index t = ![(grid0.coords t 0).val, (grid0.coords t 1).val, 0]
    ∧ win0_27.index t = ![(grid0.coords t 0).val, (grid0.coords t 1).val, 0]
    ∧ win0_28.index t = ![(grid0.coords t 0).val, (grid0.coords t 1).val, 0] :=
  (by decide +kernel : ∀ t : Fin grid0.N, _)

/-- The position a block's row `r` stands for. -/
def row (t : Fin cfg0.N) (r : Fin 1024) : Fin 4096 := ⟨(grid0.coords t 1).val * 1024 + r, by
  have h : (grid0.coords t 1).val < 4 := (grid0.coords t 1).isLt
  omega⟩

/-- Window 0: the residual stream. -/
theorem blk0 (c : Dev nD) (t : Fin cfg0.N) (r k : Fin 1024) :
    (iblk m c 0 t : FVec Ideal S1x1024x1024 .f32) (ix3 0 r k)
      = (m ((c : Thread nD τ).loc main_arg0) : FVec Ideal S4x4096x1024 .f32) (ix3 (grid0.coords t 0) (row t r) k) := by
  rw [← V_main_arg0 m c]
  blk_ext [iblk, row, idx t]

/-- Window 3: the six modulation rows of the batch. -/
theorem blk3 (c : Dev nD) (t : Fin cfg0.N) (j : Fin 6) (k : Fin 1024) :
    (iblk m c 3 t : FVec Ideal S1x1x6x1024 .f32) (ix4 0 0 j k)
      = (m ((c : Thread nD τ).loc main_arg1) : FVec Ideal S2x4x6144 .f32) (ix3 1 (grid0.coords t 0) ⟨j * 1024 + k, by omega⟩) := by
  refine Eq.trans ?_ (mod_at (fun b => m (c, b)) (grid0.coords t 0) j k)
  blk_ext [iblk, V, idx t]

/-- Window 4: the norm's weights. -/
theorem blk4 (c : Dev nD) (t : Fin cfg0.N) (i : Fin 2) (k : Fin 1024) :
    (iblk m c 4 t : FVec Ideal S2x1024 .f32) (ix2 i k) = (m ((c : Thread nD τ).loc main_arg5) : FVec Ideal S2x1024 .f32) (ix2 i k) := by
  rw [← V_main_arg5 m c]
  blk_ext [iblk, idx t]

/-- Window 8: the window mixer's columns of the projection's weight. -/
theorem blk8 (c : Dev nD) (t : Fin cfg0.N) (k : Fin 1024) (j : Fin 768) :
    (iblk m c 8 t : FVec Ideal S1x1024x768 .bf16) (ix3 0 k j)
      = (m ((c : Thread nD τ).loc main_arg6) : FVec Ideal S2x1024x2464 .f32) (ix3 1 k ⟨1696 + j, by omega⟩) := by
  refine Eq.trans ?_ (w_at (fun b => m (c, b)) k j)
  blk_ext [iblk, V, idx t]

end Cert.InProjIdeal.Block
-- ==== Proof.InProjStores.lean ====
/- What the input projection's run stores into the queries, keys and values: projections of the two halves of a block. -/
module

public import proofs.«01_k».proof.Proof.InProjFrame
public import proofs.«01_k».proof.Proof.InProjHost
public import Idealize.ShloMosaic.Lib.Pipeline.ReadBack

@[expose] public section

set_option maxRecDepth 16384

noncomputable section

namespace Cert.InProjIdeal.Block

open Idealize.ShloMosaic Idealize.ShloMosaic.TcCoe Idealize.SL.Sem
open Idealize.ShloMosaic.Pipeline (Dat)
open Cert.InProjIdeal Cert.InProjIdeal.Gen Cert.InProjIdeal.Body
open Cert.MlpRow

variable (m : (ℓ : Loc nD τ sig) → Buf (Elt Ideal) ℓ) (c : Dev nD) (t : Fin cfg0.N)

/-- The shift row of the modulation, as loaded. -/
def shift : FVec Ideal S1x1x1x1024 .f32 :=
  View.ld (iblk m c 3 t : FVec Ideal S1x1x6x1024 .f32) (Rect.unit ![0, 0, 0, 0] ![1, 1, 1, 1024] inb_S1x1x6x1024_S1x1x1x1024_0_0_0_0)

/-- The scale row of the modulation, as loaded. -/
def scale : FVec Ideal S1x1x1x1024 .f32 :=
  View.ld (iblk m c 3 t : FVec Ideal S1x1x6x1024 .f32) (Rect.unit ![0, 0, 1, 0] ![1, 1, 1, 1024] inb_S1x1x6x1024_S1x1x1x1024_0_0_1_0)

/-- The norm's weight, as loaded. -/
def gain : FVec Ideal S1x1024 .f32 :=
  View.ld (iblk m c 4 t : FVec Ideal S2x1024 .f32) (Rect.unit ![1, 0] ![1, 1024] inb_S2x1024_S1x1024_1_0)

/-- The first 512 rows of the block. -/
def lo : FVec Ideal S1x512x1024 .f32 :=
  View.ld (iblk m c 0 t : FVec Ideal S1x1024x1024 .f32) (Rect.unit ![0, 0, 0] ![1, 512, 1024] inb_S1x1024x1024_S1x512x1024_0_0_0)

/-- The last 512 rows of the block. -/
def hi : FVec Ideal S1x512x1024 .f32 :=
  View.ld (iblk m c 0 t : FVec Ideal S1x1024x1024 .f32) (Rect.unit ![0, 512, 0] ![1, 512, 1024] inb_S1x1024x1024_S1x512x1024_0_512_0)

/-- The projection of the first 512 rows. -/
def proj0 : FVec Ideal S512x768 .f32 :=
  k0_pay12 (F := Ideal) (k0_pay6 (F := Ideal) (k0_pay2 (shift m c t)) (k0_pay3 (scale m c t) (gain m c t)) (lo m c t)) (iblk m c 8 t)

/-- The projection of the last 512 rows. -/
def proj1 : FVec Ideal S512x768 .f32 :=
  k0_pay80 (F := Ideal) (k0_pay76 (F := Ideal) (k0_pay73 (F := Ideal) (k0_pay2 (shift m c t)) (k0_pay3 (scale m c t) (gain m c t))
    (k0_pay70 (hi m c t)) (k0_pay71 (hi m c t)) k0_pay72)) (iblk m c 8 t)

set_option maxHeartbeats 4000000 in
/-- The run's stores of the queries. -/
theorem stores26 : (runAt m c t).2.2.2.2.1
    = [⟨Rect.unit ![0, 512, 0] ![1, 512, 256] inb_S1x1024x256_S1x512x256_0_512_0, k0_pay113 (F := Ideal) (proj1 m c t)⟩,
       ⟨Rect.unit ![0, 0, 0] ![1, 512, 256] inb_S1x1024x256_S1x512x256_0_0_0, k0_pay43 (F := Ideal) (k0_pay42 (proj0 m c t))⟩] := by
  dsimp only [runAt, run]
  simp (disch := decide) only [run.sl.r_25, run.sl.r_44, run.sl.r_7, run.sl.r_40, run.sl.v70, run.sl.v661, run.sl.HS0_6, run.sl.HS0_3,
    ↓View.readCov_skip, View.readCov_cons_toLoadRect, run.sl.r, run.sl.r_1, run.sl.r_3, run.sl.r_37, run.sl.r_38,
    View.readAt_eq_ld, Memref.IsWhole.read_unread, View.ld_unit_lit']
  rfl

set_option maxHeartbeats 4000000 in
/-- The run's stores of the keys. -/
theorem stores27 : (runAt m c t).2.2.2.2.2.1
    = [⟨Rect.unit ![0, 512, 0] ![1, 512, 256] inb_S1x1024x256_S1x512x256_0_512_0, k0_pay115 (F := Ideal) (k0_pay114 (proj1 m c t))⟩,
       ⟨Rect.unit ![0, 0, 0] ![1, 512, 256] inb_S1x1024x256_S1x512x256_0_0_0, k0_pay44 (F := Ideal) (proj0 m c t)⟩] := by
  dsimp only [runAt, run]
  simp (disch := decide) only [run.sl.r_25, run.sl.r_44, run.sl.r_66, run.sl.r_7, run.sl.r_40, run.sl.v70, run.sl.v661, run.sl.HS0_6,
    run.sl.HS0_3, ↓View.readCov_skip, View.readCov_cons_toLoadRect, run.sl.r, run.sl.r_1, run.sl.r_3, run.sl.r_37, run.sl.r_38,
    View.readAt_eq_ld, Memref.IsWhole.read_unread, View.ld_unit_lit']
  rfl

set_option maxHeartbeats 4000000 in
/-- The run's stores of the values. -/
theorem stores28 : (runAt m c t).2.2.2.2.2.2.1
    = [⟨Rect.unit ![0, 512, 0] ![1, 512, 256] inb_S1x1024x256_S1x512x256_0_512_0, k0_pay116 (F := Ideal) (proj1 m c t)⟩,
       ⟨Rect.unit ![0, 0, 0] ![1, 512, 256] inb_S1x1024x256_S1x512x256_0_0_0, k0_pay45 (F := Ideal) (proj0 m c t)⟩] := by
  dsimp only [runAt, run]
  simp (disch := decide) only [run.sl.r_25, run.sl.r_44, run.sl.r_7, run.sl.r_40, run.sl.v70, run.sl.v661, run.sl.HS0_6, run.sl.HS0_3,
    ↓View.readCov_skip, View.readCov_cons_toLoadRect, run.sl.r, run.sl.r_1, run.sl.r_3, run.sl.r_37, run.sl.r_38,
    View.readAt_eq_ld, Memref.IsWhole.read_unread, View.ld_unit_lit']
  rfl

end Cert.InProjIdeal.Block
-- ==== Proof.InProjValue.lean ====
/- The arrays that the input projection's run leaves for the window mixer: queries, keys and values. -/
module

public import proofs.«01_k».proof.Proof.InProjStores
public import Idealize.ShloMosaic.Lib.Pipeline.ReadBack

@[expose] public section

set_option maxRecDepth 16384

noncomputable section

namespace Cert.InProjIdeal.Block

open Idealize.ShloMosaic Idealize.ShloMosaic.TcCoe Idealize.SL.Sem
open Idealize.ShloMosaic.Pipeline (Dat)
open Cert.InProjIdeal Cert.InProjIdeal.Gen Cert.InProjIdeal.Body
open Cert.MlpRow

variable (m : (ℓ : Loc nD τ sig) → Buf (Elt Ideal) ℓ) (c : Dev nD) (t : Fin cfg0.N)

/-- A position's modulated norm, over the arguments. -/
def modAt (x : FVec Ideal S4x4096x1024 .f32) (md : FVec Ideal S2x4x6144 .f32) (g : FVec Ideal S2x1024 .f32) (b : Fin 4) (p : Fin 4096) :
    Fin 1024 → EReal :=
  modn (fun k => x (ix3 b p k)) (fun k => g (ix2 1 k) * (1 + md (ix3 1 b ⟨1024 + k, by omega⟩))) (fun k => md (ix3 1 b ⟨k, by omega⟩))

/-- The same, of the arguments that the run finds. -/
abbrev modRow (p : Fin 4096) : Fin 1024 → EReal :=
  modAt (m ((c : Thread nD τ).loc main_arg0)) (m ((c : Thread nD τ).loc main_arg1)) (m ((c : Thread nD τ).loc main_arg5))
    (grid0.coords t 0) p

theorem shift_at (k : Fin 1024) : shift m c t (ix4 0 0 0 k)
    = (m ((c : Thread nD τ).loc main_arg1) : FVec Ideal S2x4x6144 .f32) (ix3 1 (grid0.coords t 0) ⟨k, by omega⟩) := by
  refine Eq.trans (b := (iblk m c 3 t : FVec Ideal S1x1x6x1024 .f32) (ix4 0 0 0 k)) ?_ ((blk3 m c t 0 k).trans ?_)
  · pointwise [shift]
  · exact congrArg _ (congrArg (ix3 1 (grid0.coords t 0)) (Fin.ext (by simp)))

theorem scale_at (k : Fin 1024) : scale m c t (ix4 0 0 0 k)
    = (m ((c : Thread nD τ).loc main_arg1) : FVec Ideal S2x4x6144 .f32) (ix3 1 (grid0.coords t 0) ⟨1024 + k, by omega⟩) := by
  refine Eq.trans (b := (iblk m c 3 t : FVec Ideal S1x1x6x1024 .f32) (ix4 0 0 1 k)) ?_ ((blk3 m c t 1 k).trans ?_)
  · pointwise [scale]
  · exact congrArg _ (congrArg (ix3 1 (grid0.coords t 0)) (Fin.ext (by simp)))

theorem gain_at (k : Fin 1024) : gain m c t (ix2 0 k)
    = (m ((c : Thread nD τ).loc main_arg5) : FVec Ideal S2x1024 .f32) (ix2 1 k) := by
  refine Eq.trans (b := (iblk m c 4 t : FVec Ideal S2x1024 .f32) (ix2 1 k)) ?_ (blk4 m c t 1 k)
  pointwise [gain]

theorem lo_at (r : Fin 512) (k : Fin 1024) : lo m c t (ix3 0 r k)
    = (m ((c : Thread nD τ).loc main_arg0) : FVec Ideal S4x4096x1024 .f32) (ix3 (grid0.coords t 0) (row t ⟨r, by omega⟩) k) := by
  refine Eq.trans (b := (iblk m c 0 t : FVec Ideal S1x1024x1024 .f32) (ix3 0 ⟨r, by omega⟩ k)) ?_ (blk0 m c t ⟨r, by omega⟩ k)
  pointwise [lo]

theorem hi_at (r : Fin 512) (k : Fin 1024) : hi m c t (ix3 0 r k)
    = (m ((c : Thread nD τ).loc main_arg0) : FVec Ideal S4x4096x1024 .f32) (ix3 (grid0.coords t 0) (row t ⟨512 + r, by omega⟩) k) := by
  refine Eq.trans (b := (iblk m c 0 t : FVec Ideal S1x1024x1024 .f32) (ix3 0 ⟨512 + r, by omega⟩ k)) ?_ (blk0 m c t ⟨512 + r, by omega⟩ k)
  pointwise [hi]

/-- The projection of a row of the first half. -/
theorem proj0_at (r : Fin 512) (j : Fin 768) : proj0 m c t (ix2 r j)
    = ∑ k, modRow m c t (row t ⟨r, by omega⟩) k
        * (m ((c : Thread nD τ).loc main_arg6) : FVec Ideal S2x1024x2464 .f32) (ix3 1 k ⟨1696 + j, by omega⟩) := by
  unfold proj0
  refine (dot0_at _ _ r j).trans (Finset.sum_congr rfl fun k _ => ?_)
  rw [rows0_at, blk8]
  simp only [shift_at, scale_at, gain_at, lo_at]
  rfl

/-- The projection of a row of the second half. -/
theorem proj1_at (r : Fin 512) (j : Fin 768) : proj1 m c t (ix2 r j)
    = ∑ k, modRow m c t (row t ⟨512 + r, by omega⟩) k
        * (m ((c : Thread nD τ).loc main_arg6) : FVec Ideal S2x1024x2464 .f32) (ix3 1 k ⟨1696 + j, by omega⟩) := by
  unfold proj1
  refine (dot1_at _ _ r j).trans (Finset.sum_congr rfl fun k _ => ?_)
  rw [rows1_at, blk8]
  simp only [shift_at, scale_at, gain_at, hi_at]
  rfl

/-- A stretch of 256 columns of the projection, over the arguments. -/
abbrev res (o : Fin 2209) : FVec Ideal S4x4096x256 .bf16 :=
  out o (m ((c : Thread nD τ).loc main_arg0)) (m ((c : Thread nD τ).loc main_arg1)) (m ((c : Thread nD τ).loc main_arg5))
    (m ((c : Thread nD τ).loc main_arg6))

/-- The block of that stretch at point `t`. -/
def resBlock (o : Fin 2209) : S1x1024x256.Idx → EReal := fun y => res m c o (ix3 (grid0.coords t 0) (row t (y 1)) (y 2))

/-- The stretch at a position, as a sum over the projection's columns. -/
theorem res_at (o : Fin 2209) (o' : ℕ) (ho : o.val = 1696 + o') (ho' : o' ≤ 512) (p : Fin 4096) (j : Fin 256) :
    ∑ k, modRow m c t p k
        * (m ((c : Thread nD τ).loc main_arg6) : FVec Ideal S2x1024x2464 .f32) (ix3 1 k ⟨1696 + (o' + j.val), by omega⟩)
      = res m c o (ix3 (grid0.coords t 0) p j) := by
  have hj : (⟨1696 + (o' + j.val), by omega⟩ : Fin 2464) = ⟨o.val + j.val, by omega⟩ := Fin.ext (by simp only [ho]; omega)
  rw [hj]
  rfl

/-- Two stores, each half of the block's rows, fill the block. -/
theorem halves (o : Fin 2209) (o' : ℕ) (ho : o.val = 1696 + o') (ho' : o' ≤ 512) (p1 p0 : FVec Ideal S1x512x256 .bf16)
    (h1 : ∀ r j, p1 (ix3 0 r j) = proj1 m c t (ix2 r ⟨o' + j.val, by omega⟩))
    (h0 : ∀ r j, p0 (ix3 0 r j) = proj0 m c t (ix2 r ⟨o' + j.val, by omega⟩))
    (L : List (View.Piece (Elt Ideal) S1x1024x256 .bf16))
    (hL : L = [⟨Rect.unit ![0, 512, 0] ![1, 512, 256] inb_S1x1024x256_S1x512x256_0_512_0, p1⟩,
       ⟨Rect.unit ![0, 0, 0] ![1, 512, 256] inb_S1x1024x256_S1x512x256_0_0_0, p0⟩])
    (hc : ∀ y, ∃ pc ∈ L, y ∈ pc.1.set) (y : S1x1024x256.Idx) : View.canon L y = resBlock m c t o y := by
  have hP : View.PiecesOf (resBlock m c t o) L := by
    subst hL
    refine ⟨fun x => ?_, fun x => ?_, trivial⟩
    · idx_vars x
      obtain rfl : x0 = 0 := Subsingleton.elim _ _
      refine (h1 x1 x2).trans ((proj1_at m c t _ _).trans ?_)
      have he : (Rect.unit ![0, 512, 0] ![1, 512, 256] inb_S1x1024x256_S1x512x256_0_512_0 : Rect S1x1024x256).emb (ix3 0 x1 x2)
          = (ix3 0 ⟨512 + x1, by omega⟩ ⟨x2, by omega⟩ : S1x1024x256.Idx) := by blk_ext []
      refine Eq.trans ?_ (congrArg (resBlock m c t o) he).symm
      exact res_at m c t o o' ho ho' _ x2
    · idx_vars x
      obtain rfl : x0 = 0 := Subsingleton.elim _ _
      refine (h0 x1 x2).trans ((proj0_at m c t _ _).trans ?_)
      have he : (Rect.unit ![0, 0, 0] ![1, 512, 256] inb_S1x1024x256_S1x512x256_0_0_0 : Rect S1x1024x256).emb (ix3 0 x1 x2)
          = (ix3 0 ⟨x1, by omega⟩ ⟨x2, by omega⟩ : S1x1024x256.Idx) := by blk_ext []
      refine Eq.trans ?_ (congrArg (resBlock m c t o) he).symm
      exact res_at m c t o o' ho ho' _ x2
  have h := View.canon_append_of_piecesOf (resBlock m c t o) [] L hP y (hc y)
  rwa [List.append_nil] at h

/-- The queries' block. -/
theorem block26_eq (y : S1x1024x256.Idx) : block26 m c t y = resBlock m c t 1696 y := by
  unfold block26
  rw [View.read_writes_junk_eq_canon]
  exact halves m c t 1696 0 rfl (by omega) _ _ (fun r j => (q1_at _ r j).trans (congrArg _ (congrArg (ix2 r) (Fin.ext (Nat.zero_add _).symm))))
    (fun r j => (q0_at _ r j).trans (congrArg _ (congrArg (ix2 r) (Fin.ext (Nat.zero_add _).symm)))) _ (stores26 m c t) (cover26 m c t) y

/-- The keys' block. -/
theorem block27_eq (y : S1x1024x256.Idx) : block27 m c t y = resBlock m c t 1952 y := by
  unfold block27
  rw [View.read_writes_junk_eq_canon]
  exact halves m c t 1952 256 rfl (by omega) _ _ (fun r j => k1_at _ r j) (fun r j => k0_at _ r j) _ (stores27 m c t) (cover27 m c t) y

/-- The values' block. -/
theorem block28_eq (y : S1x1024x256.Idx) : block28 m c t y = resBlock m c t 2208 y := by
  unfold block28
  rw [View.read_writes_junk_eq_canon]
  exact halves m c t 2208 512 rfl (by omega) _ _ (fun r j => v1_at _ r j) (fun r j => v0_at _ r j) _ (stores28 m c t) (cover28 m c t) y

/-- The queries after the run. -/
theorem final26 : (dats m 0 c).arrAt 26 cfg0.N = res m c 1696 := by
  refine (dats m 0 c).arrAt_eq_of_covers 26 _ (by decide +kernel) fun t hf y => ?_
  blk_simp
  rw [after26]
  refine (block26_eq m c t y).trans ?_
  idx_vars y
  obtain rfl : y0 = 0 := Subsingleton.elim _ _
  refine congrArg (res m c 1696) ?_
  blk_ext [row, idx t]

/-- The keys after the run. -/
theorem final27 : (dats m 0 c).arrAt 27 cfg0.N = res m c 1952 := by
  refine (dats m 0 c).arrAt_eq_of_covers 27 _ (by decide +kernel) fun t hf y => ?_
  blk_simp
  rw [after27]
  refine (block27_eq m c t y).trans ?_
  idx_vars y
  obtain rfl : y0 = 0 := Subsingleton.elim _ _
  refine congrArg (res m c 1952) ?_
  blk_ext [row, idx t]

/-- The values after the run. -/
theorem final28 : (dats m 0 c).arrAt 28 cfg0.N = res m c 2208 := by
  refine (dats m 0 c).arrAt_eq_of_covers 28 _ (by decide +kernel) fun t hf y => ?_
  blk_simp
  rw [after28]
  refine (block28_eq m c t y).trans ?_
  idx_vars y
  obtain rfl : y0 = 0 := Subsingleton.elim _ _
  refine congrArg (res m c 2208) ?_
  blk_ext [row, idx t]

end Cert.InProjIdeal.Block
-- ==== Proof.InProjReference.lean ====
/- What the input projection's reference computes for the window mixer, entry by entry. -/
module

public import proofs.«01_k».proof.Proof.Gen.InProjReferenceIdeal.Run
public import proofs.«01_k».proof.Proof.InProjBlock

@[expose] public section

set_option maxRecDepth 16384

noncomputable section

namespace Cert.InProjReferenceIdeal.Line

open Idealize.ShloMosaic Idealize.ShloMosaic.TcCoe Idealize.SL.Sem
open Cert.InProjReferenceIdeal Cert.InProjReferenceIdeal.Gen
open Cert.MlpRow

/-- The layer's modulation values, batch by batch. -/
def mods (md : FVec Ideal S2x4x6144 .f32) : FVec Ideal S4x6144 .f32 :=
  shapeCast S4x6144 (extractStridedSlice S1x4x6144 ![1, 0, 0] md slices_S2x4x6144_S1x4x6144_1_0_0) shapeCasts_S1x4x6144_S4x6144

/-- The layer's modulation values, entry by entry. -/
theorem mods_at (md : FVec Ideal S2x4x6144 .f32) (b : Fin 4) (j : Fin 6144) : mods md (ix2 b j) = md (ix3 1 b j) := by
  pointwise [mods]

/-- The norm of the rows. -/
def normed (x : FVec Ideal S4x4096x1024 .f32) : FVec Ideal S4x4096x1024 .f32 :=
  mulf x (broadcastInDim S4x4096x1024 ![0, 1, 2] bcast_S4x4096x1_S4x4096x1024_0_1_2 (Host.rsqrt (addf
    (Host.divf (broadcastInDim S4x4096x1 ![0, 1] bcast_S4x4096_S4x4096x1_0_1
      (Host.reduceAdd (mulf x x) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32)))))

/-- The norm, entry by entry. -/
theorem normed_at (x : FVec Ideal S4x4096x1024 .f32) (b : Fin 4) (p : Fin 4096) (l : Fin 1024) :
    normed x (ix3 b p l) = x (ix3 b p l) * MlpRow.inv (fun k => x (ix3 b p k)) := by
  pointwise [normed]
  rfl

/-- The modulated norm of the rows. -/
def rows (x : FVec Ideal S4x4096x1024 .f32) (md : FVec Ideal S2x4x6144 .f32) (g : FVec Ideal S2x1024 .f32) :
    FVec Ideal S4x4096x1024 .f32 :=
  addf (mulf (mulf (normed x) (broadcastInDim S4x4096x1024 ![0, 1, 2] bcast_S1x1x1024_S4x4096x1024_0_1_2
      (broadcastInDim S1x1x1024 ![2] bcast_S1024_S1x1x1024_2 (shapeCast S1024
        (extractStridedSlice S1x1024 ![1, 0] g slices_S2x1024_S1x1024_1_0) shapeCasts_S1x1024_S1024))))
    (broadcastInDim S4x4096x1024 ![0, 1, 2] bcast_S4x1x1024_S4x4096x1024_0_1_2
      (addf (broadcastInDim S4x1x1024 ![] bcast_S_S4x1x1024 (constant S_ .f32 0x3F800000#32))
        (broadcastInDim S4x1x1024 ![0, 2] bcast_S4x1024_S4x1x1024_0_2
          (extractStridedSlice S4x1024 ![0, 1024] (mods md) slices_S4x6144_S4x1024_0_1024)))))
    (broadcastInDim S4x4096x1024 ![0, 1, 2] bcast_S4x1x1024_S4x4096x1024_0_1_2
      (broadcastInDim S4x1x1024 ![0, 2] bcast_S4x1024_S4x1x1024_0_2
        (extractStridedSlice S4x1024 ![0, 0] (mods md) slices_S4x6144_S4x1024_0_0)))

/-- The modulated norm, entry by entry. -/
theorem rows_at (x : FVec Ideal S4x4096x1024 .f32) (md : FVec Ideal S2x4x6144 .f32) (g : FVec Ideal S2x1024 .f32)
    (b : Fin 4) (p : Fin 4096) (l : Fin 1024) :
    rows x md g (ix3 b p l) = modn (fun k => x (ix3 b p k)) (fun k => g (ix2 1 k) * (1 + md (ix3 1 b ⟨1024 + k, by omega⟩)))
      (fun k => md (ix3 1 b ⟨k, by omega⟩)) l := by
  pointwise [rows, normed_at, mods_at]
  unfold modn
  rw [mul_assoc _ (g _)]

/-- The projection's columns for the window mixer. -/
def cols (x : FVec Ideal S4x4096x1024 .f32) (md : FVec Ideal S2x4x6144 .f32) (g : FVec Ideal S2x1024 .f32)
    (w : FVec Ideal S2x1024x2464 .f32) : FVec Ideal S4x4096x768 .f32 :=
  extractStridedSlice S4x4096x768 ![0, 0, 1696] (Host.dotGeneral dot_S4x4096x1024_S1024x2464_S4x4096x2464_2_0_01_1_n_n none
    (rows x md g) (shapeCast S1024x2464 (extractStridedSlice S1x1024x2464 ![1, 0, 0] w slices_S2x1024x2464_S1x1024x2464_1_0_0)
      shapeCasts_S1x1024x2464_S1024x2464)) slices_S4x4096x2464_S4x4096x768_0_0_1696

/-- The columns, entry by entry. -/
theorem cols_at (x : FVec Ideal S4x4096x1024 .f32) (md : FVec Ideal S2x4x6144 .f32) (g : FVec Ideal S2x1024 .f32)
    (w : FVec Ideal S2x1024x2464 .f32) (b : Fin 4) (p : Fin 4096) (j : Fin 768) :
    cols x md g w (ix3 b p j) = ∑ k : Fin 1024, modn (fun k => x (ix3 b p k))
      (fun k => g (ix2 1 k) * (1 + md (ix3 1 b ⟨1024 + k, by omega⟩))) (fun k => md (ix3 1 b ⟨k, by omega⟩)) k
        * w (ix3 1 k ⟨1696 + j, by omega⟩) := by
  pointwise [cols, rows_at]

/-- The reference's queries are the projection's columns from 1696. -/
theorem q_eq (x : FVec Ideal S4x4096x1024 .f32) (md : FVec Ideal S2x4x6144 .f32) (g : FVec Ideal S2x1024 .f32)
    (w : FVec Ideal S2x1024x2464 .f32) :
    truncf .bf16 (extractStridedSlice S4x4096x256 ![0, 0, 0] (cols x md g w) slices_S4x4096x768_S4x4096x256_0_0_0) bitsLt_bf16_f32
      = Cert.InProjIdeal.Block.out 1696 x md g w := by
  funext i
  idx_vars i
  pointwise [cols_at]
  rfl

/-- The reference's keys are the projection's columns from 1952. -/
theorem k_eq (x : FVec Ideal S4x4096x1024 .f32) (md : FVec Ideal S2x4x6144 .f32) (g : FVec Ideal S2x1024 .f32)
    (w : FVec Ideal S2x1024x2464 .f32) :
    truncf .bf16 (extractStridedSlice S4x4096x256 ![0, 0, 256] (cols x md g w) slices_S4x4096x768_S4x4096x256_0_0_256) bitsLt_bf16_f32
      = Cert.InProjIdeal.Block.out 1952 x md g w := by
  funext i
  idx_vars i
  pointwise [cols_at]
  unfold Cert.InProjIdeal.Block.out
  refine Finset.sum_congr rfl fun k _ => congrArg₂ (· * ·) rfl (congrArg w ?_)
  refine congrArg (ix3 1 k) (Fin.ext ?_)
  simp only [ix3]
  show 1696 + (256 + i2.val) = 1952 + i2.val
  omega

/-- The reference's values are the projection's columns from 2208. -/
theorem v_eq (x : FVec Ideal S4x4096x1024 .f32) (md : FVec Ideal S2x4x6144 .f32) (g : FVec Ideal S2x1024 .f32)
    (w : FVec Ideal S2x1024x2464 .f32) :
    truncf .bf16 (extractStridedSlice S4x4096x256 ![0, 0, 512] (cols x md g w) slices_S4x4096x768_S4x4096x256_0_0_512) bitsLt_bf16_f32
      = Cert.InProjIdeal.Block.out 2208 x md g w := by
  funext i
  idx_vars i
  pointwise [cols_at]
  unfold Cert.InProjIdeal.Block.out
  refine Finset.sum_congr rfl fun k _ => congrArg₂ (· * ·) rfl (congrArg w ?_)
  refine congrArg (ix3 1 k) (Fin.ext ?_)
  show 1696 + (512 + i2.val) = 2208 + i2.val
  omega

end Cert.InProjReferenceIdeal.Line
-- ==== Proof.InProjClaim.lean ====
/- The claims of the input projection: its reference runs to its end, and the two, from equal arguments, end with equal
   queries, keys and values of the window mixer. -/
module

public import proofs.«01_k».proof.Proof.InProjValue
public import proofs.«01_k».proof.Proof.InProjReference
public import proofs.«01_k».proof.Defs
public import Idealize.ShloMosaic.Lib.Claim

@[expose] public section

set_option maxRecDepth 16384

noncomputable section

namespace Cert.InProjClaim

open Idealize.ShloMosaic Idealize.ShloMosaic.TcCoe Idealize.SL.Sem

/-- The reference runs to its end, with its arguments as they were and every semaphore at zero. -/
theorem quiescent : Cert.quiescent_InProjReferenceIdeal := by
  intro m g _
  refine (θ_run _ _ _).mono (fun r h => ⟨fun c => (h c).2.2.2, ?_⟩) (Cert.InProjReferenceIdeal.Value.run m g)
  funext x
  exact ((by decide : ∀ s : SemLoc Cert.InProjReferenceIdeal.sig, False) x.2).elim

open Cert.InProjIdeal Cert.InProjIdeal.Gen in
/-- The program ends with queries, keys and values at the three stretches of the projection. -/
theorem run_results (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v57_4) = Block.res m c 1696
      ∧ r.2.mem ((c.tc : Thread nD τ).loc main_v57_5) = Block.res m c 1952
      ∧ r.2.mem ((c.tc : Thread nD τ).loc main_v57_6) = Block.res m c 2208) :=
  (θ_run defs _ _).mono (fun r h c => ⟨((h.1 c).1 26).trans (Block.final26 m c), ((h.1 c).1 27).trans (Block.final27 m c),
    ((h.1 c).1 28).trans (Block.final28 m c)⟩) (Body.run_main m g)

/-- Equal arguments have equal projections. -/
theorem out_congr (o : Fin 2209) {x x' : FVec Ideal Cert.InProjIdeal.S4x4096x1024 .f32} (h0 : x' = x)
    {md md' : FVec Ideal Cert.InProjIdeal.S2x4x6144 .f32} (h1 : md' = md) {g g' : FVec Ideal Cert.InProjIdeal.S2x1024 .f32} (h5 : g' = g)
    {w w' : FVec Ideal Cert.InProjIdeal.S2x1024x2464 .f32} (h6 : w' = w) :
    Cert.InProjIdeal.Block.out o x' md' g' w' = Cert.InProjIdeal.Block.out o x md g w := by
  subst h0 h1 h5 h6
  rfl

set_option maxHeartbeats 1000000 in
/-- The kernel and its reference, from equal arguments, end with equal results. -/
theorem algebraic : Cert.algebraic_InProjIdeal_InProjReferenceIdeal := by
  intro m g m' g' hpre hagree
  refine ⟨fun c => Cert.InProjIdeal.Block.res m c 1696, fun c => Cert.InProjIdeal.Block.res m c 1952,
    fun c => Cert.InProjIdeal.Block.res m c 2208, ?_, ?_⟩
  · exact (θ_run _ _ _).mono (fun r h c => ⟨(h.1 c).1, (h.1 c).2.1, (h.1 c).2.2, h.2 c⟩)
      (θ_run_and (run_results m g) (Cert.InProjIdeal.Body.unchanged m g))
  · refine (θ_run _ _ _).mono (fun r h c => ?_) (Cert.InProjReferenceIdeal.Value.run m' g')
    obtain ⟨h0, h1, h2, h3, h4, h5, h6, hr⟩ := hagree c
    exact ⟨(h c).1.trans ((Cert.InProjReferenceIdeal.Line.q_eq _ _ _ _).trans (out_congr 1696 h0 h1 h5 h6)),
      (h c).2.1.trans ((Cert.InProjReferenceIdeal.Line.k_eq _ _ _ _).trans (out_congr 1952 h0 h1 h5 h6)),
      (h c).2.2.1.trans ((Cert.InProjReferenceIdeal.Line.v_eq _ _ _ _).trans (out_congr 2208 h0 h1 h5 h6)), (h c).2.2.2⟩

end Cert.InProjClaim
-- ==== Proof.lean ====
module

public import proofs.«01_k».proof.Defs
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionReferenceIdeal
public import proofs.«01_k».proof.Proof.Gen.OutMlp
public import proofs.«01_k».proof.Proof.Gen.OutMlp.Skeleton
public import proofs.«01_k».proof.Proof.Gen.OutMlp.Launch
public import proofs.«01_k».proof.Proof.Gen.OutMlp.Points
public import proofs.«01_k».proof.Proof.Gen.OutMlp.Frame
public import proofs.«01_k».proof.Proof.Gen.OutMlpIdeal
public import proofs.«01_k».proof.Proof.Gen.OutMlpIdeal.Skeleton
public import proofs.«01_k».proof.Proof.Gen.OutMlpIdeal.Launch
public import proofs.«01_k».proof.Proof.Gen.OutMlpIdeal.Points
public import proofs.«01_k».proof.Proof.Gen.OutMlpIdeal.Frame
public import proofs.«01_k».proof.Proof.Gen.OutMlpReferenceIdeal
public import proofs.«01_k».proof.Proof.Gen.Pre_finite_qk
public import proofs.«01_k».proof.Proof.Gen.AttentionIdeal.Value
public import proofs.«01_k».proof.Proof.AttnClaim
public import proofs.«01_k».proof.Proof.MlpClaim
public import proofs.«01_k».proof.Proof.ModReference
public import proofs.«01_k».proof.Proof.Gen.AttentionReferenceIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.InProjReferenceIdeal.Run
public import proofs.«01_k».proof.Proof.InProjFrame
public import proofs.«01_k».proof.Proof.InProjFrameBits
public import proofs.«01_k».proof.Proof.InProjClaim
public import Idealize.ShloMosaic.Adequacy
public import Idealize.ShloMosaic.Init

@[expose] public section

noncomputable section

namespace Cert.Proof

open Idealize.ShloMosaic Idealize.SL.Sem Cert.Attention

/-- Every claim of the certificate. -/
theorem claim : Cert.Claim := ⟨Cert.Attention.Gen.facts, Cert.AttentionIdeal.Gen.facts, Cert.AttentionReferenceIdeal.Gen.facts,
  Cert.OutMlp.Gen.facts, Cert.OutMlpIdeal.Gen.facts, Cert.OutMlpReferenceIdeal.Gen.facts,
  Cert.Modulation.Gen.facts, Cert.ModulationIdeal.Gen.facts, Cert.ModulationReferenceIdeal.Gen.facts,
  Cert.InProj.Gen.facts, Cert.InProjIdeal.Gen.facts, Cert.InProjReferenceIdeal.Gen.facts, Cert.Pre_finite_qk.Gen.facts,
  fun m g _ => Cert.Attention.Gen.frame m g, fun m g _ => Cert.AttentionIdeal.Gen.frame m g,
  fun m g _ => Cert.AttentionIdeal.Gen.frame m g, Cert.AttnClaim.quiescent, fun m g _ => Cert.AttnClaim.quiescent m g trivial,
  fun m g _ => Cert.OutMlp.Gen.frame m g, fun m g _ => Cert.OutMlpIdeal.Gen.frame m g, Cert.MlpClaim.quiescent,
  fun m g _ => Cert.Modulation.Gen.frame m g, fun m g _ => Cert.ModulationIdeal.Gen.frame m g, Cert.ModClaim.quiescent,
  fun m g _ => Cert.InProj.Body.frame m g, fun m g _ => Cert.InProjIdeal.Body.frame m g, Cert.InProjClaim.quiescent,
  IdealRules.named_const.statement _ _ _ _ _ rfl, Cert.AttnClaim.algebraic, trivial, Cert.MlpClaim.algebraic, trivial,
  Cert.ModClaim.algebraic, trivial, Cert.InProjClaim.algebraic⟩

end Cert.Proof

end
